-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S4x1024x1024 : Shape := ⟨3, ![4, 1024, 1024]⟩
abbrev S3x1024x1024 : Shape := ⟨3, ![3, 1024, 1024]⟩
abbrev S2x128x1024 : Shape := ⟨3, ![2, 128, 1024]⟩
abbrev S1024x1024 : Shape := ⟨2, ![1024, 1024]⟩
abbrev S2x1024x1024 : Shape := ⟨3, ![2, 1024, 1024]⟩
abbrev S8x1024x1024 : Shape := ⟨3, ![8, 1024, 1024]⟩
abbrev S24 : Shape := ⟨1, ![24]⟩
abbrev S4x8 : Shape := ⟨2, ![4, 8]⟩
abbrev S2 : Shape := ⟨1, ![2]⟩
abbrev S_ : Shape := ⟨0, ![]⟩
abbrev S8 : Shape := ⟨1, ![8]⟩
abbrev S1 : Shape := ⟨1, ![1]⟩
abbrev S1x128x1024 : Shape := ⟨3, ![1, 128, 1024]⟩
abbrev S128x1024 : Shape := ⟨2, ![128, 1024]⟩
abbrev S1x1024x1024 : Shape := ⟨3, ![1, 1024, 1024]⟩
abbrev S1x1 : Shape := ⟨2, ![1, 1]⟩
abbrev S128x2048 : Shape := ⟨2, ![128, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S4x1024x1024, .bf16⟩
  | .local _ .vmem, ⟨1, _⟩ => ⟨S3x1024x1024, .bf16⟩
  | .local _ .vmem, ⟨2, _⟩ => ⟨S2x128x1024, .f32⟩
  | .local _ .vmem, ⟨3, _⟩ => ⟨S1024x1024, .f32⟩
  | .local _ .vmem, ⟨4, _⟩ => ⟨S2x1024x1024, .f32⟩
  | .local _ .vmem, ⟨5, _⟩ => ⟨S8x1024x1024, .bf16⟩
  | .local _ .vmem, ⟨6, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v37 : BitVec 32 := Scalar.addi v2 c1_i32_18
  let c4_i32_19 : BitVec 32 := 4#32
  let c0_i32_20 : BitVec 32 := 0#32
  let v38 : BitVec 1 := Scalar.cmpi .eq c4_i32_19 c0_i32_20
  let c1_i32_21 : BitVec 32 := 1#32
  let v39 : BitVec 32 := Scalar.select v38 c1_i32_21 c4_i32_19
  let v40 : BitVec 32 := Scalar.remsi v37 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c1_i32_26 : BitVec 32 := 1#32
  let v48 : BitVec 32 := Scalar.muli v47 c1_i32_26
  let v49 : BitVec 32 := Scalar.addi c0_i32_27 v48
  v49.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v50 : BitVec 32 := Scalar.addi v2 c2_i32_28
  let c4_i32_29 : BitVec 32 := 4#32
  let c0_i32_30 : BitVec 32 := 0#32
  let v51 : BitVec 1 := Scalar.cmpi .eq c4_i32_29 c0_i32_30
  let c1_i32_31 : BitVec 32 := 1#32
  let v52 : BitVec 32 := Scalar.select v51 c1_i32_31 c4_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_36 : BitVec 32 := 1#32
  let v61 : BitVec 32 := Scalar.muli v60 c1_i32_36
  let v62 : BitVec 32 := Scalar.addi c0_i32_37 v61
  v62.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v63 : BitVec 32 := Scalar.addi v2 c3_i32_38
  let c4_i32_39 : BitVec 32 := 4#32
  let c0_i32_40 : BitVec 32 := 0#32
  let v64 : BitVec 1 := Scalar.cmpi .eq c4_i32_39 c0_i32_40
  let c1_i32_41 : BitVec 32 := 1#32
  let v65 : BitVec 32 := Scalar.select v64 c1_i32_41 c4_i32_39
  let v66 : BitVec 32 := Scalar.remsi v63 v65
  let c0_i32_43 : BitVec 32 := 0#32
  let v68 : BitVec 1 := Scalar.cmpi .slt v66 c0_i32_43
  let c0_i32_44 : BitVec 32 := 0#32
  let v69 : BitVec 1 := Scalar.cmpi .slt v65 c0_i32_44
  let v70 : BitVec 1 := Scalar.xori v68 v69
  let c0_i32_42 : BitVec 32 := 0#32
  let v67 : BitVec 1 := Scalar.cmpi .ne v66 c0_i32_42
  let v71 : BitVec 1 := Scalar.andi v70 v67
  let v72 : BitVec 32 := Scalar.addi v66 v65
  let v73 : BitVec 32 := Scalar.select v71 v72 v66
  let c1_i32_46 : BitVec 32 := 1#32
  let v74 : BitVec 32 := Scalar.muli v73 c1_i32_46
  let v75 : BitVec 32 := Scalar.addi c0_i32_47 v74
  v75.toNat
def k0_off1 (d0 : Dev nD) (c2_i32 : BitVec 32) (c0_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1024_i32 : BitVec 32 := 1024#32
  let v76 : BitVec 32 := Scalar.muli v35 c1024_i32
  let v77 : BitVec 32 := Scalar.addi v76 c0_i32_48
  let c0_i32_92 : BitVec 32 := 0#32
  ![v77.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_98 : BitVec 32 := 1024#32
  let v134 : BitVec 32 := Scalar.muli v2 c1024_i32_98
  let c0_i32_99 : BitVec 32 := 0#32
  ![v134.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_100 : BitVec 32 := 1024#32
  let v136 : BitVec 32 := Scalar.muli v2 c1024_i32_100
  let c0_i32_112 : BitVec 32 := 0#32
  ![v136.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_101 : BitVec 32 := 1024#32
  let v137 : BitVec 32 := Scalar.muli v2 c1024_i32_101
  let c1024_i32_117 : BitVec 32 := 1024#32
  ![v137.toNat, 1024]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_135 : BitVec 32 := 0#32
  ![v2.toNat, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_139 : BitVec 32 := 0#32
  let c0_i32_140 : BitVec 32 := 0#32
  ![v2.toNat, 0, 0]
def k0_dev4 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_137 : BitVec 32 := 1#32
  let v170 : BitVec 32 := Scalar.muli v35 c1_i32_137
  let v171 : BitVec 32 := Scalar.addi c0_i32_138 v170
  v171.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_158 : BitVec 32 := 1#32
  ![v2.toNat, 1]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_162 : BitVec 32 := 128#32
  let c0_i32_163 : BitVec 32 := 0#32
  ![v2.toNat, 128, 0]
def k0_dev5 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_160 : BitVec 32 := 1#32
  let v196 : BitVec 32 := Scalar.muli v35 c1_i32_160
  let v197 : BitVec 32 := Scalar.addi c0_i32_161 v196
  v197.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_182 : BitVec 32 := 2#32
  ![v2.toNat, 2]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_186 : BitVec 32 := 256#32
  let c0_i32_187 : BitVec 32 := 0#32
  ![v2.toNat, 256, 0]
def k0_dev6 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_184 : BitVec 32 := 1#32
  let v222 : BitVec 32 := Scalar.muli v35 c1_i32_184
  let v223 : BitVec 32 := Scalar.addi c0_i32_185 v222
  v223.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_206 : BitVec 32 := 3#32
  ![v2.toNat, 3]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_210 : BitVec 32 := 384#32
  let c0_i32_211 : BitVec 32 := 0#32
  ![v2.toNat, 384, 0]
def k0_dev7 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_208 : BitVec 32 := 1#32
  let v248 : BitVec 32 := Scalar.muli v35 c1_i32_208
  let v249 : BitVec 32 := Scalar.addi c0_i32_209 v248
  v249.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_230 : BitVec 32 := 4#32
  ![v2.toNat, 4]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_234 : BitVec 32 := 512#32
  let c0_i32_235 : BitVec 32 := 0#32
  ![v2.toNat, 512, 0]
def k0_dev8 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_232 : BitVec 32 := 1#32
  let v274 : BitVec 32 := Scalar.muli v35 c1_i32_232
  let v275 : BitVec 32 := Scalar.addi c0_i32_233 v274
  v275.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c5_i32 : BitVec 32 := 5#32
  ![v2.toNat, 5]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_257 : BitVec 32 := 640#32
  let c0_i32_258 : BitVec 32 := 0#32
  ![v2.toNat, 640, 0]
def k0_dev9 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_255 : BitVec 32 := 1#32
  let v300 : BitVec 32 := Scalar.muli v35 c1_i32_255
  let v301 : BitVec 32 := Scalar.addi c0_i32_256 v300
  v301.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c6_i32 : BitVec 32 := 6#32
  ![v2.toNat, 6]
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_280 : BitVec 32 := 768#32
  let c0_i32_281 : BitVec 32 := 0#32
  ![v2.toNat, 768, 0]
def k0_dev10 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_278 : BitVec 32 := 1#32
  let v326 : BitVec 32 := Scalar.muli v35 c1_i32_278
  let v327 : BitVec 32 := Scalar.addi c0_i32_279 v326
  v327.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32 : BitVec 32 := 7#32
  ![v2.toNat, 7]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_303 : BitVec 32 := 896#32
  let c0_i32_304 : BitVec 32 := 0#32
  ![v2.toNat, 896, 0]
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_301 : BitVec 32 := 1#32
  let v352 : BitVec 32 := Scalar.muli v35 c1_i32_301
  let v353 : BitVec 32 := Scalar.addi c0_i32_302 v352
  v353.toNat
def k0_dev12 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_325 : BitVec 32 := 1#32
  let v378 : BitVec 32 := Scalar.muli v13 c1_i32_325
  let v379 : BitVec 32 := Scalar.addi c0_i32_326 v378
  v379.toNat
def k0_dev13 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_349 : BitVec 32 := 1#32
  let v404 : BitVec 32 := Scalar.muli v13 c1_i32_349
  let v405 : BitVec 32 := Scalar.addi c0_i32_350 v404
  v405.toNat
def k0_dev14 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_373 : BitVec 32 := 1#32
  let v430 : BitVec 32 := Scalar.muli v13 c1_i32_373
  let v431 : BitVec 32 := Scalar.addi c0_i32_374 v430
  v431.toNat
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_397 : BitVec 32 := 1#32
  let v456 : BitVec 32 := Scalar.muli v13 c1_i32_397
  let v457 : BitVec 32 := Scalar.addi c0_i32_398 v456
  v457.toNat
def k0_dev16 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_421 : BitVec 32 := 1#32
  let v482 : BitVec 32 := Scalar.muli v13 c1_i32_421
  let v483 : BitVec 32 := Scalar.addi c0_i32_422 v482
  v483.toNat
def k0_dev17 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_445 : BitVec 32 := 1#32
  let v508 : BitVec 32 := Scalar.muli v13 c1_i32_445
  let v509 : BitVec 32 := Scalar.addi c0_i32_446 v508
  v509.toNat
def k0_dev18 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_469 : BitVec 32 := 1#32
  let v534 : BitVec 32 := Scalar.muli v13 c1_i32_469
  let v535 : BitVec 32 := Scalar.addi c0_i32_470 v534
  v535.toNat
def k0_dev19 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_493 : BitVec 32 := 1#32
  let v560 : BitVec 32 := Scalar.muli v13 c1_i32_493
  let v561 : BitVec 32 := Scalar.addi c0_i32_494 v560
  v561.toNat
def k0_dev20 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_516 : BitVec 32 := 1#32
  let v586 : BitVec 32 := Scalar.muli v24 c1_i32_516
  let v587 : BitVec 32 := Scalar.addi c0_i32_517 v586
  v587.toNat
def k0_dev21 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_540 : BitVec 32 := 1#32
  let v612 : BitVec 32 := Scalar.muli v24 c1_i32_540
  let v613 : BitVec 32 := Scalar.addi c0_i32_541 v612
  v613.toNat
def k0_dev22 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_564 : BitVec 32 := 1#32
  let v638 : BitVec 32 := Scalar.muli v24 c1_i32_564
  let v639 : BitVec 32 := Scalar.addi c0_i32_565 v638
  v639.toNat
def k0_dev23 (d0 : Dev nD) : Nat :=
  let c0_i32_589 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_588 : BitVec 32 := 1#32
  let v664 : BitVec 32 := Scalar.muli v24 c1_i32_588
  let v665 : BitVec 32 := Scalar.addi c0_i32_589 v664
  v665.toNat
def k0_dev24 (d0 : Dev nD) : Nat :=
  let c0_i32_613 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_612 : BitVec 32 := 1#32
  let v690 : BitVec 32 := Scalar.muli v24 c1_i32_612
  let v691 : BitVec 32 := Scalar.addi c0_i32_613 v690
  v691.toNat
def k0_dev25 (d0 : Dev nD) : Nat :=
  let c0_i32_637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_636 : BitVec 32 := 1#32
  let v716 : BitVec 32 := Scalar.muli v24 c1_i32_636
  let v717 : BitVec 32 := Scalar.addi c0_i32_637 v716
  v717.toNat
def k0_dev26 (d0 : Dev nD) : Nat :=
  let c0_i32_656 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_655 : BitVec 32 := 1#32
  let v737 : BitVec 32 := Scalar.muli v24 c1_i32_655
  let v738 : BitVec 32 := Scalar.addi c0_i32_656 v737
  v738.toNat
def k0_dev27 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_674 : BitVec 32 := 1#32
  let v758 : BitVec 32 := Scalar.muli v24 c1_i32_674
  let v759 : BitVec 32 := Scalar.addi c0_i32_675 v758
  v759.toNat
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v771 : Index := Scalar.indexCast v2
  let c0_683 : Index := 0#32
  let c0_684 : Index := 0#32
  ![v771.toNat, 0, 0]
def k0_off22 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_102 : BitVec 32 := 1024#32
  let v138 : BitVec 32 := Scalar.muli v13 c1024_i32_102
  let c0_i32_700 : BitVec 32 := 0#32
  ![v138.toNat, 0]
def k0_off23 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_103 : BitVec 32 := 1024#32
  let v139 : BitVec 32 := Scalar.muli v13 c1024_i32_103
  let c1024_i32_716 : BitVec 32 := 1024#32
  ![v139.toNat, 1024]
def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v807 : Index := Scalar.indexCast v2
  let c0_717 : Index := 0#32
  let c0_718 : Index := 0#32
  ![v807.toNat, 0, 0]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v825 : Index := Scalar.indexCast v2
  let c128_731 : Index := 128#32
  let c0_732 : Index := 0#32
  ![v825.toNat, 128, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v843 : Index := Scalar.indexCast v2
  let c256_747 : Index := 256#32
  let c0_748 : Index := 0#32
  ![v843.toNat, 256, 0]
def k0_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v861 : Index := Scalar.indexCast v2
  let c384_763 : Index := 384#32
  let c0_764 : Index := 0#32
  ![v861.toNat, 384, 0]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v879 : Index := Scalar.indexCast v2
  let c512_779 : Index := 512#32
  let c0_780 : Index := 0#32
  ![v879.toNat, 512, 0]
def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v897 : Index := Scalar.indexCast v2
  let c640_795 : Index := 640#32
  let c0_796 : Index := 0#32
  ![v897.toNat, 640, 0]
def k0_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v915 : Index := Scalar.indexCast v2
  let c768_811 : Index := 768#32
  let c0_812 : Index := 0#32
  ![v915.toNat, 768, 0]
def k0_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v933 : Index := Scalar.indexCast v2
  let c896_827 : Index := 896#32
  let c0_828 : Index := 0#32
  ![v933.toNat, 896, 0]
def k0_off32 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_874 : BitVec 32 := 0#32
  ![v13.toNat, 0]
def k0_off33 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_878 : BitVec 32 := 0#32
  let c0_i32_879 : BitVec 32 := 0#32
  ![v13.toNat, 0, 0]
def k0_off34 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v991 : Index := Scalar.indexCast v13
  let c0_882 : Index := 0#32
  let c0_883 : Index := 0#32
  ![v991.toNat, 0, 0]
def k0_off35 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1013 : BitVec 32 := 1#32
  ![v13.toNat, 1]
def k0_off36 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c128_i32_1017 : BitVec 32 := 128#32
  let c0_i32_1018 : BitVec 32 := 0#32
  ![v13.toNat, 128, 0]
def k0_off37 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v1139 : Index := Scalar.indexCast v13
  let c128_1021 : Index := 128#32
  let c0_1022 : Index := 0#32
  ![v1139.toNat, 128, 0]
def k0_off38 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2_i32_1102 : BitVec 32 := 2#32
  ![v13.toNat, 2]
def k0_off39 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_1106 : BitVec 32 := 256#32
  let c0_i32_1107 : BitVec 32 := 0#32
  ![v13.toNat, 256, 0]
def k0_off40 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v1233 : Index := Scalar.indexCast v13
  let c256_1110 : Index := 256#32
  let c0_1111 : Index := 0#32
  ![v1233.toNat, 256, 0]
def k0_off41 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c3_i32_1191 : BitVec 32 := 3#32
  ![v13.toNat, 3]
def k0_off42 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c384_i32_1195 : BitVec 32 := 384#32
  let c0_i32_1196 : BitVec 32 := 0#32
  ![v13.toNat, 384, 0]
def k0_off43 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v1327 : Index := Scalar.indexCast v13
  let c384_1199 : Index := 384#32
  let c0_1200 : Index := 0#32
  ![v1327.toNat, 384, 0]
def k0_off44 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c4_i32_1280 : BitVec 32 := 4#32
  ![v13.toNat, 4]
def k0_off45 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_1284 : BitVec 32 := 512#32
  let c0_i32_1285 : BitVec 32 := 0#32
  ![v13.toNat, 512, 0]
def k0_off46 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v1421 : Index := Scalar.indexCast v13
  let c512_1288 : Index := 512#32
  let c0_1289 : Index := 0#32
  ![v1421.toNat, 512, 0]
def k0_off47 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c5_i32_1369 : BitVec 32 := 5#32
  ![v13.toNat, 5]
def k0_off48 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c640_i32_1373 : BitVec 32 := 640#32
  let c0_i32_1374 : BitVec 32 := 0#32
  ![v13.toNat, 640, 0]
def k0_off49 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v1515 : Index := Scalar.indexCast v13
  let c640_1377 : Index := 640#32
  let c0_1378 : Index := 0#32
  ![v1515.toNat, 640, 0]
def k0_off50 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c6_i32_1458 : BitVec 32 := 6#32
  ![v13.toNat, 6]
def k0_off51 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c768_i32_1462 : BitVec 32 := 768#32
  let c0_i32_1463 : BitVec 32 := 0#32
  ![v13.toNat, 768, 0]
def k0_off52 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v1609 : Index := Scalar.indexCast v13
  let c768_1466 : Index := 768#32
  let c0_1467 : Index := 0#32
  ![v1609.toNat, 768, 0]
def k0_off53 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c7_i32_1547 : BitVec 32 := 7#32
  ![v13.toNat, 7]
def k0_off54 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c896_i32_1551 : BitVec 32 := 896#32
  let c0_i32_1552 : BitVec 32 := 0#32
  ![v13.toNat, 896, 0]
def k0_off55 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v1703 : Index := Scalar.indexCast v13
  let c896_1555 : Index := 896#32
  let c0_1556 : Index := 0#32
  ![v1703.toNat, 896, 0]
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Rules.lean ====
/-
# Rules for one device's memory operations, stated on memrefs owned at their contents

The kernel only ever touches rectangles of its buffers: it loads and stores through a rectangle of a whole
buffer, and its transfers run between rectangles. This module restates the rules of a load, a store, a local
transfer and the wait for one on `owns`: a memref owned at what it reads. A local transfer in flight is `InFl`:
what its wait hands back, and the part of the source that the transfer leaves behind.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline library's copy, the exchange's rounds (duties named by the paying
    device) and the counters of the local transfers -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

abbrev 𝒱₀ : Variants := Variants.none

/-- The weakest precondition of a program of device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Memref `m` of device `c`, held outright, reading `X`. -/
abbrev own (c : Dev nD) {sp : Space} {s : Shape} {e : EltTy} (m : Memref sig .tc sp s e) (X : s.Idx → Elt F e) : sProp 𝕄 :=
  owns (Ix := Unit) (Name := ℕ) (U := UU) (Lvl := ℕ) (c : Thread nD τ) m fullShare X

/-- Memref `m` of device `c`, held outright at any contents. -/
abbrev ownAny (F : FTy → Type) (c : Dev nD) {sp : Space} {s : Shape} {e : EltTy} (m : Memref sig .tc sp s e) :
    sProp (MT nD τ sig Unit (Elt F) ℕ UU ℕ) := iprop(∃ X : s.Idx → Elt F e, own c m X)

theorem own_any (c : Dev nD) {sp : Space} {s : Shape} {e : EltTy} (m : Memref sig .tc sp s e) (X : s.Idx → Elt F e) :
    (own c m X : sProp 𝕄) ⊢ ownAny F c m := by
  have : URA UU := inferInstance
  iintro H; iexists X; iexact H

section Rules

variable {α : Type} {Q : α → sProp (MT nD τ sig Unit (Elt F) ℕ UU ℕ)} (c : Dev nD)

/-- A load through a rectangle owned at contents `X` continues at `X`. -/
theorem wp_load_own {cs : CoreSpace} {s : Shape} {e : EltTy} {m : Memref sig .tc cs s e} {r : Rect s} (hr : ∀ a, r.stride a = 1)
    {hl : m.view.LoadsAt r.toLoadRect} {k : (r.shape.Idx → Elt F e) → Prog (TpuEff nD τ sig (Elt F) Λ₀ .tc) α} {X : r.shape.Idx → Elt F e} :
    (own c (m.slice r hr) X : sProp 𝕄) ⊢ iprop((own c (m.slice r hr) X -∗ WP c (k X) Q) -∗ WP c (.op (.load m r.toLoadRect hl) k) Q) := by
  unfold own owns
  iintro ⟨%f, %hf, H⟩ Hk
  subst hf
  iapply (wp_load_rect 𝒱₀ (c : Thread nD τ) none Set.univ (m := m) (r := r) (f := f) (Finset.Subset.refl _)) $$ H
  iintro H
  iapply Hk
  iexists f
  isplitr; · ipureintro; rfl
  iexact H

/-- A store through a rectangle leaves it owned at what was stored. -/
theorem wp_store_own {cs : CoreSpace} {s : Shape} {e : EltTy} {m : Memref sig .tc cs s e} {r : Rect s} (hr : ∀ a, r.stride a = 1)
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    (own c (m.slice r hr) X : sProp 𝕄) ⊢ iprop((own c (m.slice r hr) w -∗ WP c (k ⟨⟩) Q) -∗ WP c (.op (.store m r w Finset.univ hx hm) k) Q) := by
  unfold own owns
  iintro ⟨%f, %hf, H⟩ Hk
  iapply (wp_store 𝒱₀ (c : Thread nD τ) none Set.univ (m := m) (r := r) (w := w) (f := f) (hm := hm) (View.setOn_subset_set _ _)) $$ H
  iintro H
  iapply Hk
  iexists _
  isplitr
  swap; · iexact H
  ipureintro; exact View.read_write_univ _ _

/-- A local transfer in flight on cell `sm`: its wait hands back the destination owned at `X` and, joined to what
    stayed here, all of the elements `S₀` of the source's buffer. -/
def InFl (c : Dev nD) (sm : SemLoc sig) (N : ℕ) {sp : Space} {s : Shape} {e : EltTy} (dst : Memref sig .tc sp s e) (X : s.Idx → Elt F e)
    (ℓ : Loc nD τ sig) (S₀ : Finset (Idx ℓ)) (q : PosShare TreeShare) (fs : Buf (Elt F) ℓ) : sProp 𝕄 :=
  iprop(∃ S : Finset (Idx ℓ), ⌜S ⊆ S₀⌝ ∗ Flight EC (c : Thread nD τ) sm () N iprop(own c dst X ∗ (ℓ ↦[S]{q} fs)) ∗ (ℓ ↦[S₀ \ S]{q} fs))

theorem own_written (c : Dev nD) {sp : Space} {s : Shape} {e : EltTy} (dst : Memref sig .tc sp s e) (f : Buf (Elt F) (dst.view.loc (c : Thread nD τ)))
    (X : s.Idx → Elt F e) :
    (dst.view.loc (c : Thread nD τ) ↦[dst.view.set]{fullShare} dst.view.write (Elt F) f X Finset.univ : sProp 𝕄) ⊢ own c dst X := by
  have h := owns_intro (Ix := Unit) (Name := ℕ) (U := UU) (Lvl := ℕ) (c : Thread nD τ) dst fullShare (dst.view.write (Elt F) f X Finset.univ)
  rw [View.read_write_univ] at h
  exact h

/-- A local transfer's start: from the source's elements `S₀`, the destination and the cell at zero. -/
theorem wp_start_own {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := Proc.tc) sp sm (.here dst)}
    {k : PUnit → Prog (TpuEff nD τ sig (Elt F) Λ₀ .tc) α} {q : PosShare TreeShare}
    {S₀ : Finset (Idx (src.view.loc (c : Thread nD τ)))} {fs : Buf (Elt F) (src.view.loc (c : Thread nD τ))} {Y X : s.Idx → Elt F e}
    (N : ℕ) (hN : dst.view.amount sm = N) (hN0 : 0 < N) (hS : src.view.set ⊆ S₀) (hX : src.view.read (Elt F) fs = X) :
    (iprop((src.view.loc (c : Thread nD τ) ↦[S₀]{q} fs) ∗ own c dst Y ∗ semVal ((c : Thread nD τ), sm) 0) : sProp 𝕄)
      ⊢ iprop((InFl c sm N dst X (src.view.loc (c : Thread nD τ)) S₀ q fs -∗ WP c (k ⟨⟩) Q)
        -∗ WP c (.op (.enqueueDma src (.here dst) sm hsrc hdst hsem) k) Q) := by
  subst hX
  unfold own InFl
  iintro ⟨Hs, Hd, Hv⟩ Hk
  ihave Hs' := (pointsTo_split_subset hS).1 $$ Hs
  icases Hs' with ⟨Hs, Hrest⟩
  unfold owns
  icases Hd with ⟨%f, %hf, Hd⟩
  iapply (wp_dmaLocal EC 𝒱₀ (c : Thread nD τ) none () N hN hN0 (Finset.Subset.refl _)) $$ [Hs Hd Hv]
  · isplitl [Hs]; · iexact Hs
    isplitl [Hd] <;> iassumption
  iintro HF
  iapply Hk
  iexists src.view.set
  isplitr; · ipureintro; exact hS
  isplitl [HF]
  · iapply (Flight_mono EC (c : Thread nD τ) _) $$ HF
    iintro ⟨Hd, Hs⟩
    isplitl [Hd]
    · iapply (own_written c dst _ _) $$ Hd
    · iexact Hs
  · iexact Hrest

/-- The wait for a local transfer: the destination at its contents, the source's elements, the cell at zero. -/
theorem wp_wait_own {sp sp' sp₂ : Space} {s s' s₂ : Shape} {e e' e₂ : EltTy} {sem : DmaSem sig}
    {srcw : Memref sig .tc sp' s' e'} {dstw : Memref sig .tc sp s e} {hsrc : srcw.view.WordExact} {hdst : dstw.view.WordExact}
    {k : PUnit → Prog (TpuEff nD τ sig (Elt F) Λ₀ .tc) α} {N : ℕ} (hN : dstw.view.dmaCredit = N)
    {dst : Memref sig .tc sp₂ s₂ e₂} {X : s₂.Idx → Elt F e₂} {ℓ : Loc nD τ sig} {S₀ : Finset (Idx ℓ)} {q : PosShare TreeShare} {fs : Buf (Elt F) ℓ}
    {O : CellTallies nD τ sig Unit} :
    (iprop(InFl c (.dma sem) N dst X ℓ S₀ q fs ∗ (∃ W, owes (c : Thread nD τ) O W) ∗ MayWait (c : Thread nD τ) (.dma sem) () O) : sProp 𝕄)
      ⊢ iprop((iprop(own c dst X ∗ (ℓ ↦[S₀]{q} fs) ∗ semVal ((c : Thread nD τ), .dma sem) 0 ∗ (∃ W, owes (c : Thread nD τ) O W)) -∗ WP c (k ⟨⟩) Q)
        -∗ WP c (.op (.waitDma2 sem srcw dstw hsrc hdst) k) Q) := by
  unfold InFl
  iintro ⟨⟨%S, %hS, HF, Hrest⟩, ⟨%W, HO⟩, Hm⟩ Hk
  iapply (wp_waitLocalO EC 𝒱₀ (c : Thread nD τ) none () hN) $$ [HF HO Hm]
  · isplitl [HF]; · iexact HF
    isplitl [HO] <;> iassumption
  iintro ⟨⟨Hd, Hs⟩, Hv, HO⟩
  iapply Hk
  isplitl [Hd]; · iexact Hd
  isplitl [Hs Hrest]
  · iapply (pointsTo_split_subset hS).2
    isplitl [Hs] <;> iassumption
  isplitl [Hv]; · iexact Hv
  iexists _; iexact HO

end Rules

/-! ## Squeezed memrefs -/

/-- A squeezed memref owned at `X` is the memref owned at `X` spread back over its shape. -/
theorem own_squeeze (c : Dev nD) {sp : Space} {s s' : Shape} {e : EltTy} (m : Memref sig .tc sp s e) (h : s.Squeezes s') (X : s.Idx → Elt F e) :
    (own c (m.squeeze s' h) (fun j => X (Shape.reshapeEquiv h.numel_eq j)) : sProp 𝕄) = own c m X := by
  unfold own owns
  have hs : (m.squeeze s' h).view.set = m.view.set := View.set_reshape _ _
  have h₁ : iprop(∃ f, ⌜(m.squeeze s' h).view.read (Elt F) f = fun j => X (Shape.reshapeEquiv h.numel_eq j)⌝
        ∗ ((m.squeeze s' h).view.loc (c : Thread nD τ) ↦[(m.squeeze s' h).view.set]{fullShare} f))
      ⊢ (iprop(∃ f, ⌜m.view.read (Elt F) f = X⌝ ∗ (m.view.loc (c : Thread nD τ) ↦[m.view.set]{fullShare} f)) : sProp 𝕄) := by
    iintro ⟨%f, %hf, H⟩
    iexists f
    isplitr
    · ipureintro
      funext i
      have := congrFun hf ((Shape.reshapeEquiv h.numel_eq).symm i)
      simp only [Equiv.apply_symm_apply] at this
      rw [← this]
      show _ = m.view.read (Elt F) f (Shape.reshapeEquiv h.numel_eq _)
      rw [Equiv.apply_symm_apply]
    · rw [hs]; iexact H
  have h₂ : iprop(∃ f, ⌜m.view.read (Elt F) f = X⌝ ∗ (m.view.loc (c : Thread nD τ) ↦[m.view.set]{fullShare} f))
      ⊢ (iprop(∃ f, ⌜(m.squeeze s' h).view.read (Elt F) f = fun j => X (Shape.reshapeEquiv h.numel_eq j)⌝
        ∗ ((m.squeeze s' h).view.loc (c : Thread nD τ) ↦[(m.squeeze s' h).view.set]{fullShare} f)) : sProp 𝕄) := by
    iintro ⟨%f, %hf, H⟩
    iexists f
    isplitr
    · ipureintro
      subst hf
      rfl
    · rw [hs]; iexact H
  exact BI.equiv_iff.mp ⟨h₁, h₂⟩

/-! ## One entry of a family -/

/-- A family of resources indexed by `ι`, entry `k` taken out, and put back in another state. -/
theorem focus {ι S : Type} [Fintype ι] [DecidableEq ι] (Φ : ι → S → sProp 𝕄) (k : ι) (f g : ι → S) (h : ∀ i, i ≠ k → g i = f i) :
    (bigSep Finset.univ (fun i => Φ i (f i)) : sProp 𝕄) ⊢ iprop(Φ k (f k) ∗ (Φ k (g k) -∗ bigSep Finset.univ fun i => Φ i (g i))) := by
  rw [← Finset.insert_erase (Finset.mem_univ k), bigSep_insert (Finset.notMem_erase k _), bigSep_insert (Finset.notMem_erase k _),
    bigSep_congr (Φ := fun i => Φ i (g i)) (Ψ := fun i => Φ i (f i)) fun i hi => by rw [h i (Finset.ne_of_mem_erase hi)]]
  exact sep_mono_right (BI.wand_intro (sep_comm (PROP := sProp 𝕄)).1)

/-- Entry `k` of a family, looked at and put back. -/

theorem peek {ι S : Type} [Fintype ι] [DecidableEq ι] (Φ : ι → S → sProp 𝕄) (k : ι) (f : ι → S) :
    bigSep Finset.univ (fun i => Φ i (f i)) ⊢ iprop(Φ k (f k) ∗ (Φ k (f k) -∗ bigSep Finset.univ fun i => Φ i (f i))) :=
  focus Φ k f f fun _ _ => rfl

end Cert.KernelIdeal.A2A

end
-- ==== Proof.KernelIdeal.Proto.lean ====
/-
# The exchange's protocol: cells, contents, schedule, levels

Each of the four devices sends every other device one block of its columns of `x`, in eight pieces of 128 rows, and
multiplies the blocks it holds with the matching rows of `w`. A piece travels from the sender's send buffer into
the slot of the receiver's block buffer named after the sender; the receiver waits for it on the receive semaphore
named after the sender and the piece. Before any piece travels, each device tells the three others on their barrier
semaphore that its block buffer is free.

This module names the semaphore cells of that protocol, the rectangles of the buffers, the contents every piece
holds, and the schedule of the cells (`xRd`): who pays which cell, how much, and what the payment hands over.
-/
module

public import proofs.«01_k».proof.Proof.KernelIdeal.Rules

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Devices -/

/-- The device `k` places after `c` around the ring of four. -/
def sh (c : Dev nD) (k : ℕ) : Dev nD := ⟨(c.val + k) % 4, Nat.mod_lt _ (by decide)⟩

/-- The device the `b`-th third of the sends goes to: first the opposite one, then the next, then the one before. -/
def tgt (c : Dev nD) (b : Fin 3) : Dev nD := sh c (![2, 1, 3] b)
/-- The device whose block is worked on `j`-th: the own one, the next, the one before, the opposite one. -/
def src (c : Dev nD) (j : Fin 4) : Dev nD := sh c (![0, 1, 3, 2] j)
/-- The device signalled `i`-th. -/
def peer (c : Dev nD) (i : Fin 3) : Dev nD := sh c (![1, 2, 3] i)

theorem tgt_ne : ∀ (c : Dev nD) (b : Fin 3), tgt c b ≠ c := by decide
theorem peer_ne : ∀ (c : Dev nD) (b : Fin 3), peer c b ≠ c := by decide
theorem src_zero : ∀ c : Dev nD, src c 0 = c := by decide
theorem src_succ_ne : ∀ (c : Dev nD) (j : Fin 3), src c j.succ ≠ c := by decide
theorem tgt_injective : ∀ (c : Dev nD), Function.Injective (tgt c) := by decide

/-! ## Memrefs and rectangles -/

abbrev xM : Memref sig .tc .hbm S4096x1024 .f32 := Memref.whole main_arg0
abbrev wM : Memref sig .tc .hbm S4096x2048 .f32 := Memref.whole main_arg1
abbrev oM : Memref sig .tc .hbm S1024x2048 .f32 := Memref.whole main_v1
abbrev cM : Memref sig .tc .vmem S4x1024x1024 .bf16 := Memref.whole cc0_scratch0
abbrev sM : Memref sig .tc .vmem S3x1024x1024 .bf16 := Memref.whole cc0_scratch1
abbrev xsM : Memref sig .tc .vmem S2x128x1024 .f32 := Memref.whole cc0_scratch2
abbrev xlM : Memref sig .tc .vmem S1024x1024 .f32 := Memref.whole cc0_scratch3
abbrev wbM : Memref sig .tc .vmem S2x1024x1024 .f32 := Memref.whole cc0_scratch4
abbrev wfM : Memref sig .tc .vmem S8x1024x1024 .bf16 := Memref.whole cc0_scratch5
abbrev aM : Memref sig .tc .vmem S1024x2048 .f32 := Memref.whole cc0_scratch6

/-- Rows `1024·d + 128·q …` of `x`: the piece `q` of the block that goes to device `d`. -/
abbrev xR (d : Dev nD) (q : Fin 8) : Rect S4096x1024 :=
  Rect.unit ![1024 * d.val + 128 * q.val, 0] S128x1024.size (by revert d q; decide +kernel)
/-- Block `d` of `x`. -/
abbrev xlR (d : Dev nD) : Rect S4096x1024 := Rect.unit ![1024 * d.val, 0] S1024x1024.size (by revert d; decide +kernel)
/-- The half `h` of the columns of block `d` of `w`. -/
abbrev wR (d : Dev nD) (h : Fin 2) : Rect S4096x2048 := Rect.unit ![1024 * d.val, 1024 * h.val] S1024x1024.size (by revert d h; decide +kernel)
abbrev cR (d : Dev nD) (q : Fin 8) : Rect S4x1024x1024 := Rect.unit ![d.val, 128 * q.val, 0] S1x128x1024.size (by revert d q; decide +kernel)
abbrev cbR (d : Dev nD) : Rect S4x1024x1024 := Rect.unit ![d.val, 0, 0] S1x1024x1024.size (by revert d; decide +kernel)
abbrev sR (b : Fin 3) (q : Fin 8) : Rect S3x1024x1024 := Rect.unit ![b.val, 128 * q.val, 0] S1x128x1024.size (by revert b q; decide +kernel)
abbrev xsR (s : Fin 2) : Rect S2x128x1024 := Rect.unit ![s.val, 0, 0] S1x128x1024.size (by revert s; decide +kernel)
abbrev wbR (s : Fin 2) : Rect S2x1024x1024 := Rect.unit ![s.val, 0, 0] S1x1024x1024.size (by revert s; decide +kernel)
abbrev wfR (i : Fin 8) : Rect S8x1024x1024 := Rect.unit ![i.val, 0, 0] S1x1024x1024.size (by revert i; decide +kernel)
abbrev aR (q : Fin 8) (h : Fin 2) : Rect S1024x2048 := Rect.unit ![128 * q.val, 1024 * h.val] S128x1024.size (by revert q h; decide +kernel)
abbrev oR (q : Fin 8) : Rect S1024x2048 := Rect.unit ![128 * q.val, 0] S128x2048.size (by revert q; decide +kernel)

abbrev cP (d : Dev nD) (q : Fin 8) : Memref sig .tc .vmem S1x128x1024 .bf16 := cM.slice (cR d q) (fun _ => rfl)
abbrev cB (d : Dev nD) : Memref sig .tc .vmem S1x1024x1024 .bf16 := cM.slice (cbR d) (fun _ => rfl)
abbrev sP (b : Fin 3) (q : Fin 8) : Memref sig .tc .vmem S1x128x1024 .bf16 := sM.slice (sR b q) (fun _ => rfl)
abbrev xsP (s : Fin 2) : Memref sig .tc .vmem S1x128x1024 .f32 := xsM.slice (xsR s) (fun _ => rfl)
abbrev wbP (s : Fin 2) : Memref sig .tc .vmem S1x1024x1024 .f32 := wbM.slice (wbR s) (fun _ => rfl)
abbrev wfP (i : Fin 8) : Memref sig .tc .vmem S1x1024x1024 .bf16 := wfM.slice (wfR i) (fun _ => rfl)
abbrev aP (q : Fin 8) (h : Fin 2) : Memref sig .tc .vmem S128x1024 .f32 := aM.slice (aR q h) (fun _ => rfl)
abbrev awP (q : Fin 8) : Memref sig .tc .vmem S128x2048 .f32 := aM.slice (oR q) (fun _ => rfl)
abbrev oP (q : Fin 8) : Memref sig .tc .hbm S128x2048 .f32 := oM.slice (oR q) (fun _ => rfl)

/-! ## Semaphores and cells -/

/-- The barrier semaphore of collective id 0. -/
abbrev barS : Sem sig := (SemArray.scalar (sig.barrier 0 rfl) : Sems sig S_).sem
/-- DMA semaphore number `n` of the kernel's own. -/
abbrev ds (n : ℕ) (h : n < 69) : DmaSem sig := ⟨n, h⟩
abbrev sendS (b : Fin 3) (q : Fin 8) : DmaSem sig := ds (8 * b.val + q.val) (by omega)
abbrev recvS (d : Dev nD) (q : Fin 8) : DmaSem sig := ds (24 + 8 * d.val + q.val) (by have : d.val < 4 := d.isLt; omega)
abbrev wS (s : Fin 2) : DmaSem sig := ds (56 + s.val) (by omega)
abbrev xS (s : Fin 2) : DmaSem sig := ds (58 + s.val) (by omega)
abbrev xlS : DmaSem sig := ds 60 (by decide)
abbrev oS (q : Fin 8) : DmaSem sig := ds (61 + q.val) (by omega)

abbrev cell (c : Dev nD) (s : SemLoc sig) : GSem nD τ sig := ((c : Thread nD τ), s)
abbrev barCell (c : Dev nD) : GSem nD τ sig := cell c (.reg barS)
abbrev sendCell (c : Dev nD) (b : Fin 3) (q : Fin 8) : GSem nD τ sig := cell c (.dma (sendS b q))
abbrev recvCell (c : Dev nD) (d : Dev nD) (q : Fin 8) : GSem nD τ sig := cell c (.dma (recvS d q))

/-- What one piece's transfer credits. -/
abbrev N : ℕ := ((cP 0 0).squeeze S128x1024 squeezes_S1x128x1024_S128x1024).view.dmaCredit
theorem N_pos : 0 < N := View.dmaCredit_pos _ (by decide)

/-! ## Contents -/

/-- A block of 128 rows spread over the shape of a piece. -/
def up {e : EltTy} (X : S128x1024.Idx → Elt F e) : S1x128x1024.Idx → Elt F e :=
  fun i => X ((Shape.reshapeEquiv (squeezes_S1x128x1024_S128x1024).numel_eq).symm i)
/-- A block of 1024 rows likewise. -/
def upB {e : EltTy} (X : S1024x1024.Idx → Elt F e) : S1x1024x1024.Idx → Elt F e :=
  fun i => X ((Shape.reshapeEquiv (squeezes_S1x1024x1024_S1024x1024).numel_eq).symm i)

theorem own_up (c : Dev nD) {sp : Space} {e : EltTy} (M : Memref sig .tc sp S1x128x1024 e) (h : S1x128x1024.Squeezes S128x1024) (X : S128x1024.Idx → Elt F e) :
    (own c (M.squeeze S128x1024 h) X : sProp 𝕄) = own c M (up X) := by
  rw [← own_squeeze c M h]; unfold up; simp only [Equiv.symm_apply_apply]
theorem own_upB (c : Dev nD) {sp : Space} {e : EltTy} (M : Memref sig .tc sp S1x1024x1024 e) (h : S1x1024x1024.Squeezes S1024x1024) (X : S1024x1024.Idx → Elt F e) :
    (own c (M.squeeze S1024x1024 h) X : sProp 𝕄) = own c M (upB X) := by
  rw [← own_squeeze c M h]; unfold upB; simp only [Equiv.symm_apply_apply]

/-- Device `c`'s columns of `x`, and its copy of `w`. -/
def xs (c : Dev nD) : S4096x1024.Idx → Elt F .f32 := m ((c : Thread nD τ).loc main_arg0)
def ws (c : Dev nD) : S4096x2048.Idx → Elt F .f32 := m ((c : Thread nD τ).loc main_arg1)

/-- The piece of `x` device `c` reads to send it, as piece `q`, to device `d`. -/
def xv (c d : Dev nD) (q : Fin 8) : S1x128x1024.Idx → Elt F .f32 := up fun j => xs m c ((xR d q).emb j)
/-- What is sent of it. -/
def sv (c d : Dev nD) (q : Fin 8) : S1x128x1024.Idx → Elt F .bf16 := k0_pay1 (xv m c d q)
/-- The own block of `x`. -/
def xlv (c : Dev nD) : S1024x1024.Idx → Elt F .f32 := fun j => xs m c ((xlR c).emb j)
/-- The own block as the block buffer holds it, -/
def lb (c : Dev nD) : S1x1024x1024.Idx → Elt F .bf16 := k0_pay27 (xlv m c)
/-- and its piece `q`. -/
def lv₀ (c : Dev nD) (q : Fin 8) : S1x128x1024.Idx → Elt F .bf16 :=
  fun j => lb m c ((Rect.unit (s := S1x1024x1024) ![0, 128 * q.val, 0] S1x128x1024.size (by revert q; decide +kernel)).emb j)
/-- Block `i / 2` in working order of `w`, its half `i % 2`, -/
def wv (c : Dev nD) (j : Fin 4) (h : Fin 2) : S1x1024x1024.Idx → Elt F .f32 := upB fun k => ws m c ((wR (src c j) h).emb k)
/-- and as the factor buffer holds it. -/
def wf (c : Dev nD) (j : Fin 4) (h : Fin 2) : S1x1024x1024.Idx → Elt F .bf16 := k0_pay28 (wv m c j h)

/-- The piece `q` of the block worked on `j`-th. -/
def cv (c : Dev nD) (j : Fin 4) (q : Fin 8) : S1x128x1024.Idx → Elt F .bf16 := if j = 0 then lv₀ m c q else sv m (src c j) c q

/-- The accumulator's piece after the block worked on `j`-th. -/
def acc (c : Dev nD) (q : Fin 8) (h : Fin 2) : Fin 4 → S128x1024.Idx → Elt F .f32
  | 0 => k0_pay30 (cv m c 0 q) (wf m c 0 h)
  | 1 => k0_pay51 (cv m c 1 q) (wf m c 1 h) (k0_pay30 (cv m c 0 q) (wf m c 0 h))
  | 2 => k0_pay51 (cv m c 2 q) (wf m c 2 h) (k0_pay51 (cv m c 1 q) (wf m c 1 h) (k0_pay30 (cv m c 0 q) (wf m c 0 h)))
  | 3 => k0_pay51 (cv m c 3 q) (wf m c 3 h) (k0_pay51 (cv m c 2 q) (wf m c 2 h) (k0_pay51 (cv m c 1 q) (wf m c 1 h) (k0_pay30 (cv m c 0 q) (wf m c 0 h))))

/-- Device `c`'s rows of the result. -/
def outv (c : Dev nD) : S1024x2048.Idx → Elt F .f32 := fun i =>
  acc m c ⟨(i 0).val / 128, by have : (i 0).val < 1024 := (i 0).isLt; omega⟩ ⟨(i 1).val / 1024, by have : (i 1).val < 2048 := (i 1).isLt; omega⟩ 3
    (Fin.cons ⟨(i 0).val % 128, Nat.mod_lt _ (by decide)⟩ (Fin.cons ⟨(i 1).val % 1024, Nat.mod_lt _ (by decide)⟩ finZeroElim))

/-! ## The schedule -/

/-- What device `d` hands device `c` with its barrier signal: its own block buffer's slot for `c`. -/
def barPay (F : FTy → Type) (c d : Dev nD) : sProp (MT nD τ sig Unit (Elt F) ℕ UU ℕ) := bigSep Finset.univ fun q : Fin 8 => ownAny F d (cP c q)
/-- What a send's completion hands back: the piece of the send buffer. -/
def sendPay (c : Dev nD) (b : Fin 3) (q : Fin 8) : sProp 𝕄 := own c (sP b q) (sv m c (tgt c b) q)
/-- What an arrival hands over: the piece from device `d`. -/
def recvPay (c d : Dev nD) (q : Fin 8) : sProp 𝕄 := own c (cP d q) (sv m d c q)

instance barPay_storable (c d : Dev nD) : BI.Storable (upEmb : UEmb _ 𝕄) (barPay F c d) := by unfold barPay ownAny own owns; infer_instance
instance sendPay_storable (c : Dev nD) (b) (q) : BI.Storable (upEmb : UEmb _ 𝕄) (sendPay (F := F) m c b q) := by unfold sendPay own owns; infer_instance
instance recvPay_storable (c d : Dev nD) (q) : BI.Storable (upEmb : UEmb _ 𝕄) (recvPay (F := F) m c d q) := by unfold recvPay own owns; infer_instance

def dutiesAt (c : Dev nD) : SemLoc sig → Finset (Dev nD)
  | .reg s => if s = barS then Finset.univ.erase c else ∅
  | .dma i => if i.val < 24 then {c} else if i.val < 56 then (if (i.val - 24) / 8 = c.val then ∅ else {⟨(i.val - 24) / 8 % 4, Nat.mod_lt _ (by decide)⟩}) else ∅

def payAt (c : Dev nD) (d : Dev nD) : SemLoc sig → sProp 𝕄
  | .reg s => barPay F c d
  | .dma i => if i.val < 24 then sendPay m c ⟨i.val / 8 % 3, Nat.mod_lt _ (by decide)⟩ ⟨i.val % 8, Nat.mod_lt _ (by decide)⟩
      else recvPay m c ⟨(i.val - 24) / 8 % 4, Nat.mod_lt _ (by decide)⟩ ⟨i.val % 8, Nat.mod_lt _ (by decide)⟩

instance payAt_storable (c d : Dev nD) (s : SemLoc sig) : BI.Storable (upEmb : UEmb _ 𝕄) (payAt (F := F) m c d s) := by
  cases s with
  | reg s => dsimp only [payAt]; infer_instance
  | dma i => dsimp only [payAt]; split <;> infer_instance

/-- One round, round 0: a barrier cell is paid one unit by each other device, a send cell by its own device, a receive
    cell named after another device by that device. -/
def xRd : Rounds.Schedule (GSem nD τ sig) (Dev nD) 𝕄 where
  duties g r := if r = 0 ∧ g.1.2 = .tc then dutiesAt g.1.1 g.2 else ∅
  unitless _ := False
  amount g _ _ := match g.2 with | .reg _ => 1 | .dma _ => N
  payload g _ d := payAt m g.1.1 d g.2
  amount_pos g _ _ _ := by
    cases g.2 with
    | reg _ => exact Nat.one_pos
    | dma _ => exact N_pos

instance xRd_storable (g : GSem nD τ sig) (r : ℕ) (d : Dev nD) : BI.Storable (upEmb : UEmb _ 𝕄) ((xRd (F := F) m).payload g r d) :=
  payAt_storable m g.1.1 d g.2

section Sched
variable (c : Dev nD)

theorem duties_bar : (xRd (F := F) m).duties (barCell c) 0 = Finset.univ.erase c := by
  dsimp only [xRd]; rw [if_pos ⟨rfl, rfl⟩]; dsimp only [dutiesAt]; rw [if_pos rfl]
theorem duties_send (b : Fin 3) (q : Fin 8) : (xRd (F := F) m).duties (sendCell c b q) 0 = {c} := by
  dsimp only [xRd]; rw [if_pos ⟨rfl, rfl⟩]; dsimp only [dutiesAt]; rw [if_pos (show 8 * b.val + q.val < 24 by omega)]
theorem duties_recv {d : Dev nD} (hd : d ≠ c) (q : Fin 8) : (xRd (F := F) m).duties (recvCell c d q) 0 = {d} := by
  have h4 : d.val < 4 := d.isLt
  dsimp only [xRd]; rw [if_pos ⟨rfl, rfl⟩]; dsimp only [dutiesAt]
  rw [if_neg (show ¬ 24 + 8 * d.val + q.val < 24 by omega), if_pos (show 24 + 8 * d.val + q.val < 56 by omega),
    if_neg (show ¬ (24 + 8 * d.val + q.val - 24) / 8 = c.val from fun h => hd (Fin.ext (by omega)))]
  exact congrArg _ (Fin.ext (show (24 + 8 * d.val + q.val - 24) / 8 % 4 = d.val by omega))
theorem duties_recv_self (q : Fin 8) : ∀ r, 0 ≤ r → (xRd (F := F) m).duties (recvCell c c q) r = ∅ := fun r _ => by
  have h4 : c.val < 4 := c.isLt
  dsimp only [xRd]; split
  swap; · rfl
  dsimp only [dutiesAt]
  rw [if_neg (show ¬ 24 + 8 * c.val + q.val < 24 by omega), if_pos (show 24 + 8 * c.val + q.val < 56 by omega),
    if_pos (show (24 + 8 * c.val + q.val - 24) / 8 = c.val by omega)]
theorem duties_later (g : GSem nD τ sig) : ∀ r, 1 ≤ r → (xRd (F := F) m).duties g r = ∅ :=
  fun r hr => by dsimp only [xRd]; rw [if_neg fun h => by omega]

theorem amount_bar (d : Dev nD) : (xRd (F := F) m).amount (barCell c) 0 d = 1 := rfl
theorem amount_dma (s : DmaSem sig) (d : Dev nD) : (xRd (F := F) m).amount (cell c (.dma s)) 0 d = N := rfl

theorem expect_bar : (xRd (F := F) m).expect (barCell c) 0 = 3 := by
  unfold Schedule.expect Schedule.amountOf
  rw [duties_bar, Finset.sum_congr rfl fun d _ => amount_bar m c d, Finset.sum_const, Finset.card_erase_of_mem (Finset.mem_univ _), Finset.card_univ]
  rfl
theorem expect_send (b : Fin 3) (q : Fin 8) : (xRd (F := F) m).expect (sendCell c b q) 0 = N := by
  unfold Schedule.expect Schedule.amountOf; rw [duties_send, Finset.sum_singleton, amount_dma]
theorem expect_recv {d : Dev nD} (hd : d ≠ c) (q : Fin 8) : (xRd (F := F) m).expect (recvCell c d q) 0 = N := by
  unfold Schedule.expect Schedule.amountOf; rw [duties_recv m c hd, Finset.sum_singleton, amount_dma]

theorem payload_bar (d : Dev nD) : (xRd (F := F) m).payload (barCell c) 0 d = barPay F c d := rfl
theorem payload_send (b : Fin 3) (q : Fin 8) (d : Dev nD) : (xRd (F := F) m).payload (sendCell c b q) 0 d = sendPay m c b q := by
  dsimp only [xRd, payAt]
  rw [if_pos (show 8 * b.val + q.val < 24 by omega)]
  congr 1 <;> exact Fin.ext (by simp only; omega)
theorem payload_recv (d : Dev nD) (q : Fin 8) (d' : Dev nD) : (xRd (F := F) m).payload (recvCell c d q) 0 d' = recvPay m c d q := by
  have h4 : d.val < 4 := d.isLt
  dsimp only [xRd, payAt]
  rw [if_neg (show ¬ 24 + 8 * d.val + q.val < 24 by omega)]
  congr 1 <;> exact Fin.ext (by simp only; omega)

theorem rest_bar : bigSep ((xRd (F := F) m).duties (barCell c) 0 \ ∅) (fun d => (xRd (F := F) m).payload (barCell c) 0 d)
    = bigSep (Finset.univ.erase c) fun d => barPay F c d := by
  rw [Finset.sdiff_empty, duties_bar]; rfl
theorem rest_send (b : Fin 3) (q : Fin 8) :
    bigSep ((xRd (F := F) m).duties (sendCell c b q) 0 \ ∅) (fun d => (xRd (F := F) m).payload (sendCell c b q) 0 d) = sendPay m c b q := by
  rw [Finset.sdiff_empty, duties_send, bigSep_singleton, payload_send]
theorem rest_recv {d : Dev nD} (hd : d ≠ c) (q : Fin 8) :
    bigSep ((xRd (F := F) m).duties (recvCell c d q) 0 \ ∅) (fun d' => (xRd (F := F) m).payload (recvCell c d q) 0 d') = recvPay m c d q := by
  rw [Finset.sdiff_empty, duties_recv m c hd, bigSep_singleton, payload_recv]

end Sched

/-! ## What a device owes; the levels -/

/-- What device `c` still owes of its barrier signals, the last `k` of them: to the devices signalled last. -/
def owB (c : Dev nD) : ℕ → CellTallies nD τ sig Unit
  | 0 => 0
  | k + 1 => owB c k + tallyAt (barCell (peer c ⟨(2 - k) % 3, Nat.mod_lt _ (by decide)⟩)) () 1

/-- What device `c` still owes of its sends, the last `k` of them. -/
def owS (c : Dev nD) : ℕ → CellTallies nD τ sig Unit
  | 0 => 0
  | k + 1 => owS c k + tallyAt (recvCell (tgt c ⟨(23 - k) / 8 % 3, Nat.mod_lt _ (by decide)⟩) c ⟨(23 - k) % 8, Nat.mod_lt _ (by decide)⟩) () N

/-- What device `c` owes at launch. -/
def O₀ (c : Dev nD) : CellTallies nD τ sig Unit := owS c 24 + owB c 3

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma i => if 24 ≤ i.val ∧ i.val < 56 then 2 else 0

theorem L_of_ne (g : GSem nD τ sig) (h : g.1.2 ≠ .tc) : L g = ∅ := if_neg h
theorem L_tc (c : Dev nD) (sm : SemLoc sig) : L (cell c sm) = {()} := if_pos rfl

theorem lv_recv (c d : Dev nD) (q : Fin 8) (u : Unit) : lv (recvCell c d q) u = 2 := by
  have h4 : d.val < 4 := d.isLt
  dsimp only [lv]; exact if_pos ⟨by omega, by omega⟩

theorem owS_pos {c : Dev nD} {k : ℕ} {g : GSem nD τ sig} {u : Unit} (h : 0 < owS c k g u) : ∃ d q, g = recvCell d c q := by
  induction k with
  | zero => exact absurd h (Nat.lt_irrefl 0)
  | succ k ih =>
    unfold owS at h
    rw [Pi.add_apply, Finsupp.add_apply, tallyAt_apply] at h
    split at h
    · next hg => exact ⟨_, _, hg.1⟩
    · exact ih h

theorem owB_pos {c : Dev nD} {k : ℕ} {g : GSem nD τ sig} {u : Unit} (h : 0 < owB c k g u) : ∃ d, g = barCell d := by
  induction k with
  | zero => exact absurd h (Nat.lt_irrefl 0)
  | succ k ih =>
    unfold owB at h
    rw [Pi.add_apply, Finsupp.add_apply, tallyAt_apply] at h
    split at h
    · next hg => exact ⟨_, hg.1⟩
    · exact ih h

/-- Owing only sends, a device may wait on any cell but a receive cell. -/
theorem mayWait_owS (c : Dev nD) (sm : SemLoc sig) (k : ℕ) (h : lv (cell c sm) () ≤ 1) : (levAts L lv : sProp 𝕄) ⊢ MayWait (c : Thread nD τ) sm () (owS c k) :=
  MayOwe.of_cut (L := L) (lev := lv) 1 (fun p hp => by rw [Finset.mem_singleton.mp hp, L_tc]; exact Finset.mem_singleton_self _)
    (fun g u hg => by obtain ⟨d, q, rfl⟩ := owS_pos hg; exact Finset.mem_singleton_self _)
    (fun p hp => by rw [Finset.mem_singleton.mp hp]; exact h)
    (fun g u hg => by obtain ⟨d, q, rfl⟩ := owS_pos hg; rw [lv_recv]; decide)

end Cert.KernelIdeal.A2A

end
-- ==== Proof.KernelIdeal.State.lean ====
/-
# The state of one device while the kernel runs

A device's progress is a record of counters (`Cnt`): signals given, transfers started and waited for, pieces
stored, sent, received, accumulated. What the device holds at given counters is `St`: the protocol's records, which
anybody may read, and one resource per kind of buffer or cell (`Comp`), each a family indexed by the pieces of that
kind. A step of the kernel changes one to three of these resources, and in each family one piece; `via1`, `via2`,
`via3` and `fam` say so once for all steps.
-/
module

public import proofs.«01_k».proof.Proof.KernelIdeal.Proto

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Counters -/

/-- Progress: signals given, barrier waited for; copies of `x` pieces started and waited for; the own block's copy
    (0 not started, 1 in flight, 2 done); copies of `w` started and waited for; pieces stored to the send buffer,
    sent, their sends waited for; own block stored; pieces received; factors stored; accumulator stores;
    copies of the result started and waited for. -/
structure Cnt where
  ns : ℕ
  bw : ℕ
  xn : ℕ
  xw : ℕ
  xl : ℕ
  wn : ℕ
  ww : ℕ
  n1 : ℕ
  n2 : ℕ
  n3 : ℕ
  cm : ℕ
  rv : ℕ
  wb : ℕ
  t : ℕ
  s : ℕ
  d : ℕ

/-- A buffer slot some transfers go through: unused, in use by the `i`-th, or holding what the `i`-th brought. -/
inductive SS
  | fresh
  | fly (i : ℕ)
  | done (i : ℕ)

/-- Slot `s` of `p` slots used in turn, `n` transfers started and `w` waited for. -/
def stg (p s n w : ℕ) : SS :=
  if n ≤ s then .fresh else if s + p * ((n - 1 - s) / p) < w then .done (s + p * ((n - 1 - s) / p)) else .fly (s + p * ((n - 1 - s) / p))

section Stg
variable {p : ℕ} (hp : p = 1 ∨ p = 2 ∨ p = 8)
include hp

theorem stg_ready {n w : ℕ} (hw : n < w + p) : stg p (n % p) n w = .fresh ∨ ∃ i, stg p (n % p) n w = .done i := by
  unfold stg
  split
  · exact .inl rfl
  · rw [if_pos (by rcases hp with rfl | rfl | rfl <;> omega)]; exact .inr ⟨_, rfl⟩

theorem stg_started {n w : ℕ} (hw : w ≤ n) : stg p (n % p) (n + 1) w = .fly n := by
  unfold stg
  rw [if_neg (by rcases hp with rfl | rfl | rfl <;> omega)]
  have e : n % p + p * ((n + 1 - 1 - n % p) / p) = n := by rcases hp with rfl | rfl | rfl <;> omega
  rw [e, if_neg (by omega)]

theorem stg_start_other {n w s : ℕ} (hs : s < p) (h : s ≠ n % p) : stg p s (n + 1) w = stg p s n w := by
  unfold stg
  have e₁ : n + 1 ≤ s ↔ n ≤ s := by rcases hp with rfl | rfl | rfl <;> omega
  by_cases hn : n ≤ s
  · rw [if_pos hn, if_pos (e₁.mpr hn)]
  · rw [if_neg hn, if_neg (fun h => hn (e₁.mp h))]
    have e : (n + 1 - 1 - s) / p = (n - 1 - s) / p := by rcases hp with rfl | rfl | rfl <;> omega
    rw [e]

theorem stg_flying {n w : ℕ} (h₁ : w < n) (h₂ : n ≤ w + p) : stg p (w % p) n w = .fly w := by
  unfold stg
  rw [if_neg (by rcases hp with rfl | rfl | rfl <;> omega)]
  have e : w % p + p * ((n - 1 - w % p) / p) = w := by rcases hp with rfl | rfl | rfl <;> omega
  rw [e, if_neg (by omega)]

theorem stg_done {n w i : ℕ} (hi : i < w) (h₁ : i < n) (h₂ : n ≤ i + p) : stg p (i % p) n w = .done i := by
  unfold stg
  rw [if_neg (by rcases hp with rfl | rfl | rfl <;> omega)]
  have e : i % p + p * ((n - 1 - i % p) / p) = i := by rcases hp with rfl | rfl | rfl <;> omega
  rw [e, if_pos hi]

theorem stg_wait_other {n w s : ℕ} (h₁ : w < n) (h₂ : n ≤ w + p) (hs : s < p) (h : s ≠ w % p) : stg p s n (w + 1) = stg p s n w := by
  unfold stg
  by_cases hn : n ≤ s
  · rw [if_pos hn, if_pos hn]
  · rw [if_neg hn, if_neg hn]
    by_cases hl : s + p * ((n - 1 - s) / p) < w
    · rw [if_pos hl, if_pos (by omega)]
    · rw [if_neg hl, if_neg (by rcases hp with rfl | rfl | rfl <;> omega)]

end Stg

/-! ## Which piece is whose -/

/-- The third and the piece of the `i`-th send. -/
def bOf (i : ℕ) : Fin 3 := ⟨i / 8 % 3, Nat.mod_lt _ (by decide)⟩
def qOf (i : ℕ) : Fin 8 := ⟨i % 8, Nat.mod_lt _ (by decide)⟩
/-- The block (in working order, the own one being 0) and the piece of the `r`-th arrival. -/
def rj (r : ℕ) : Fin 3 := ⟨r % 3, Nat.mod_lt _ (by decide)⟩
def rq (r : ℕ) : Fin 8 := ⟨r / 3 % 8, Nat.mod_lt _ (by decide)⟩
/-- The block and the half of the `i`-th factor. -/
def wj (i : ℕ) : Fin 4 := ⟨i / 2 % 4, Nat.mod_lt _ (by decide)⟩
def wh (i : ℕ) : Fin 2 := ⟨i % 2, Nat.mod_lt _ (by decide)⟩
/-- The piece, block and half of the accumulator's `t`-th store. -/
def tq (t : ℕ) : Fin 8 := ⟨(if t < 16 then t / 2 else (t - 16) / 6) % 8, Nat.mod_lt _ (by decide)⟩
def tj (t : ℕ) : Fin 4 := ⟨(if t < 16 then 0 else (t - 16) % 6 / 2 + 1) % 4, Nat.mod_lt _ (by decide)⟩
def th (t : ℕ) : Fin 2 := ⟨t % 2, Nat.mod_lt _ (by decide)⟩

/-- How many of the first `t` stores went to piece `i / 2`, half `i % 2`. -/
def alev (i t : ℕ) : ℕ := if t ≤ i then 0 else if t ≤ 16 + (i / 2 * 6 + i % 2) then 1 else if t ≤ 18 + (i / 2 * 6 + i % 2) then 2
  else if t ≤ 20 + (i / 2 * 6 + i % 2) then 3 else 4

/-- What the `i`-th send carries: what is read for it, and what is sent. -/
def xvi (c : Dev nD) (i : ℕ) : S1x128x1024.Idx → Elt F .f32 := xv m c (tgt c (bOf i)) (qOf i)
def svi (c : Dev nD) (i : ℕ) : S1x128x1024.Idx → Elt F .bf16 := sv m c (tgt c (bOf i)) (qOf i)

/-- Piece `q` of the rows of the result. -/
def ov (c : Dev nD) (q : Fin 8) : S128x2048.Idx → Elt F .f32 := fun j => outv m c ((oR q).emb j)

/-! ## Records -/

/-- The cells under the protocol: the barrier cell, the send cells 0 to 23, the receive cells 24 to 55. -/
abbrev KI : Type := Option (Fin 56)
def ksem : KI → SemLoc sig
  | none => .reg barS
  | some i => .dma (ds i.val (by omega))
def kcell (ck : Dev nD × KI) : GSem nD τ sig := cell ck.1 (ksem ck.2)

variable (K : Dev nD × KI → ℕ)

/-- What every device knows all along: the cells' invariants, that round 0 of each is reached, and the levels. -/
def records : sProp 𝕄 :=
  iprop((bigSep Finset.univ fun ck : Dev nD × KI => cellInv ER (xRd m) (K ck) (kcell ck))
    ∗ (bigSep Finset.univ fun ck : Dev nD × KI => reached ER (kcell ck) 0) ∗ levAts L lv)

instance records_persistent : BI.Persistent (records (F := F) m K) := by unfold records; infer_instance

theorem rec_inv (ck : Dev nD × KI) : (records m K : sProp 𝕄) ⊢ cellInv ER (xRd m) (K ck) (kcell ck) := by
  unfold records; iintro ⟨H, -, -⟩
  iapply (show (bigSep Finset.univ fun ck : Dev nD × KI => (cellInv ER (xRd m) (K ck) (kcell ck) : sProp 𝕄)) ⊢ _ from bigSep_elim (Finset.mem_univ ck)) $$ H
theorem rec_reached (ck : Dev nD × KI) : (records m K : sProp 𝕄) ⊢ reached ER (kcell ck) 0 := by
  unfold records; iintro ⟨-, H, -⟩
  iapply (show (bigSep Finset.univ fun ck : Dev nD × KI => (reached ER (kcell ck) 0 : sProp 𝕄)) ⊢ _ from bigSep_elim (Finset.mem_univ ck)) $$ H
theorem rec_lev : (records m K : sProp 𝕄) ⊢ levAts L lv := by
  unfold records; iintro ⟨-, -, H⟩; iexact H

/-- The protocol's name of a send cell, and of a receive cell. -/
def kSend (i : ℕ) : KI := some ⟨8 * (bOf i).val + (qOf i).val, by omega⟩
def kRecv (d : Dev nD) (q : Fin 8) : KI := some ⟨24 + 8 * d.val + q.val, by have : d.val < 4 := d.isLt; omega⟩

theorem kcell_none (c : Dev nD) : kcell (c, none) = barCell c := rfl
theorem kcell_send (c : Dev nD) (i : ℕ) : kcell (c, kSend i) = sendCell c (bOf i) (qOf i) := rfl
theorem kcell_recv (c d : Dev nD) (q : Fin 8) : kcell (c, kRecv d q) = recvCell c d q := rfl

/-! ## The families -/

section Families
variable (c : Dev nD)

/-- The shares of `x` the three users of it hold, and of `w`. -/
def shx (s : Fin 2) : PosShare TreeShare := if s = 0 then fullShare.left else fullShare.right.left
def shl : PosShare TreeShare := fullShare.right.right
def shw (s : Fin 2) : PosShare TreeShare := if s = 0 then fullShare.left else fullShare.right

abbrev xLoc : Loc nD τ sig := (c : Thread nD τ).loc main_arg0
abbrev wLoc : Loc nD τ sig := (c : Thread nD τ).loc main_arg1
abbrev xPts (q : PosShare TreeShare) : sProp 𝕄 := xLoc c ↦[Finset.univ]{q} (xs m c : Buf (Elt F) (xLoc c))
abbrev wPts (q : PosShare TreeShare) : sProp 𝕄 := wLoc c ↦[Finset.univ]{q} (ws m c : Buf (Elt F) (wLoc c))

abbrev sq1 {sp : Space} {e : EltTy} (M : Memref sig .tc sp S1x128x1024 e) : Memref sig .tc sp S128x1024 e := M.squeeze S128x1024 squeezes_S1x128x1024_S128x1024
abbrev sqB {sp : Space} {e : EltTy} (M : Memref sig .tc sp S1x1024x1024 e) : Memref sig .tc sp S1024x1024 e := M.squeeze S1024x1024 squeezes_S1x1024x1024_S1024x1024

abbrev Nx : ℕ := (sq1 (xsP 0)).view.dmaCredit
abbrev Nl : ℕ := xlM.view.dmaCredit
abbrev Nw : ℕ := (sqB (wbP 0)).view.dmaCredit
abbrev No : ℕ := (oP 0).view.dmaCredit

/-- A barrier signal still to be given: its duty, and the slots it hands over. -/
def sigΦ (i : Fin 3) : Bool → sProp 𝕄
  | false => iprop(dutyTok ER (barCell (peer c i)) 0 c ∗ barPay F (peer c i) c)
  | true => iprop(emp)

def barΦ : Bool → sProp 𝕄
  | false => iprop(cred (tallyAt (barCell c) () 3) ∗ atPos ER (barCell c) 0 ∅ 0)
  | true => atPos ER (barCell c) 1 ∅ 0

/-- The slot the `i`-th send fills, from the barrier to the send. -/
def dstΦ (i : Fin 24) : Bool → sProp 𝕄
  | false => iprop(emp)
  | true => ownAny F (tgt c (bOf i.val)) (cP c (qOf i.val))

/-- The `i`-th send: its piece of the send buffer (unused, stored, under way, back) and its protocol tokens. -/
def sndΦ (i : Fin 24) : ℕ → sProp 𝕄
  | 0 => iprop(ownAny F c (sP (bOf i.val) (qOf i.val)) ∗ dutyTok ER (sendCell c (bOf i.val) (qOf i.val)) 0 c
      ∗ dutyTok ER (recvCell (tgt c (bOf i.val)) c (qOf i.val)) 0 c ∗ atPos ER (sendCell c (bOf i.val) (qOf i.val)) 0 ∅ 0)
  | 1 => iprop(own c (sP (bOf i.val) (qOf i.val)) (svi m c i.val) ∗ dutyTok ER (sendCell c (bOf i.val) (qOf i.val)) 0 c
      ∗ dutyTok ER (recvCell (tgt c (bOf i.val)) c (qOf i.val)) 0 c ∗ atPos ER (sendCell c (bOf i.val) (qOf i.val)) 0 ∅ 0)
  | 2 => iprop(cred (tallyAt (sendCell c (bOf i.val) (qOf i.val)) () N) ∗ atPos ER (sendCell c (bOf i.val) (qOf i.val)) 0 ∅ 0)
  | _ => iprop(own c (sP (bOf i.val) (qOf i.val)) (svi m c i.val) ∗ atPos ER (sendCell c (bOf i.val) (qOf i.val)) 1 ∅ 0)

/-- The `r`-th arrival, awaited or here. -/
def rcvΦ (r : Fin 24) : Bool → sProp 𝕄
  | false => iprop(cred (tallyAt (recvCell c (src c (rj r.val).succ) (rq r.val)) () N) ∗ atPos ER (recvCell c (src c (rj r.val).succ) (rq r.val)) 0 ∅ 0)
  | true => iprop(own c (cP (src c (rj r.val).succ) (rq r.val)) (cv m c (rj r.val).succ (rq r.val)) ∗ atPos ER (recvCell c (src c (rj r.val).succ) (rq r.val)) 1 ∅ 0)

/-- The own block's slot, before and after it is stored. -/
def ownbΦ : Bool → sProp 𝕄
  | false => ownAny F c (cB c)
  | true => bigSep Finset.univ fun q : Fin 8 => own c (cP (src c 0) q) (cv m c 0 q)

/-- The receive cells named after the device itself: never paid. -/
def ownrΦ : sProp 𝕄 := bigSep Finset.univ fun q : Fin 8 => atPos ER (recvCell c c q) 0 ∅ 0

/-- A slot of the staging buffer for `x`. -/
def xΦ (s : Fin 2) : SS → sProp 𝕄
  | .fresh => iprop(xPts m c (shx s) ∗ ownAny F c (xsP s) ∗ semVal (cell c (.dma (xS s))) 0)
  | .fly i => InFl c (.dma (xS s)) Nx (sq1 (xsP s)) (fun j => xs m c ((xR (tgt c (bOf i)) (qOf i)).emb j)) (xLoc c) Finset.univ (shx s) (xs m c)
  | .done i => iprop(xPts m c (shx s) ∗ own c (xsP s) (xvi m c i) ∗ semVal (cell c (.dma (xS s))) 0)

/-- The own block's copy. -/
def xlΦ : SS → sProp 𝕄
  | .fresh => iprop(xPts m c shl ∗ ownAny F c xlM ∗ semVal (cell c (.dma xlS)) 0)
  | .fly _ => InFl c (.dma xlS) Nl xlM (xlv m c) (xLoc c) Finset.univ shl (xs m c)
  | .done _ => iprop(xPts m c shl ∗ own c xlM (xlv m c) ∗ semVal (cell c (.dma xlS)) 0)

/-- A slot of the staging buffer for `w`. -/
def wΦ (s : Fin 2) : SS → sProp 𝕄
  | .fresh => iprop(wPts m c (shw s) ∗ ownAny F c (wbP s) ∗ semVal (cell c (.dma (wS s))) 0)
  | .fly i => InFl c (.dma (wS s)) Nw (sqB (wbP s)) (fun k => ws m c ((wR (src c (wj i)) (wh i)).emb k)) (wLoc c) Finset.univ (shw s) (ws m c)
  | .done i => iprop(wPts m c (shw s) ∗ own c (wbP s) (wv m c (wj i) (wh i)) ∗ semVal (cell c (.dma (wS s))) 0)

/-- A factor. -/
def wfΦ (i : Fin 8) : Bool → sProp 𝕄
  | false => ownAny F c (wfP i)
  | true => own c (wfP i) (wf m c (wj i.val) (wh i.val))

/-- A piece of the accumulator: gone to the result's copy, or after some number of stores. -/
def accΦ (i : Fin 16) : Option ℕ → sProp 𝕄
  | none => iprop(emp)
  | some 0 => ownAny F c (aP (tq i.val) (th i.val))
  | some (n + 1) => own c (aP (tq i.val) (th i.val)) (acc m c (tq i.val) (th i.val) ⟨n % 4, Nat.mod_lt _ (by decide)⟩)

/-- A piece of the result. -/
def outΦ (q : Fin 8) : SS → sProp 𝕄
  | .fresh => iprop(ownAny F c (oP q) ∗ semVal (cell c (.dma (oS q))) 0)
  | .fly _ => iprop(∃ fs, InFl c (.dma (oS q)) No (oP q) (ov m c q) ((awP q).view.loc (c : Thread nD τ)) (awP q).view.set fullShare fs)
  | .done _ => iprop(ownAny F c (awP q) ∗ own c (oP q) (ov m c q) ∗ semVal (cell c (.dma (oS q))) 0)

end Families

/-! ## The state -/

/-- The kinds of resources. -/
inductive Ct
  | ow | sig | bar | dst | snd | rcv | ownb | ownr | xst | xl | wst | wf | acc | out
  deriving DecidableEq

instance : Fintype Ct where
  elems := {.ow, .sig, .bar, .dst, .snd, .rcv, .ownb, .ownr, .xst, .xl, .wst, .wf, .acc, .out}
  complete x := by cases x <;> decide

/-- How far the `i`-th send is. -/
def sndLev (i n1 n2 n3 : ℕ) : ℕ := if i < n3 then 3 else if i < n2 then 2 else if i < n1 then 1 else 0
/-- The accumulator's piece `i / 2`, half `i % 2`, after `t` stores and `s` copies out started. -/
def accSt (i t s : ℕ) : Option ℕ := if i / 2 < s then none else some (alev i t)

/-- What device `c` holds of each kind. -/
def Comp (c : Dev nD) (s : Cnt) : Ct → sProp 𝕄
  | .ow => iprop(∃ W, owes (c : Thread nD τ) (owS c (24 - s.n2) + owB c (3 - s.ns)) W)
  | .sig => bigSep Finset.univ fun i : Fin 3 => sigΦ c i (decide (i.val < s.ns))
  | .bar => barΦ c (decide (0 < s.bw))
  | .dst => bigSep Finset.univ fun i : Fin 24 => dstΦ c i (decide (0 < s.bw ∧ s.n2 ≤ i.val))
  | .snd => bigSep Finset.univ fun i : Fin 24 => sndΦ m c i (sndLev i.val s.n1 s.n2 s.n3)
  | .rcv => bigSep Finset.univ fun i : Fin 24 => rcvΦ m c i (decide (i.val < s.rv))
  | .ownb => ownbΦ m c (decide (0 < s.cm))
  | .ownr => ownrΦ c
  | .xst => bigSep Finset.univ fun i : Fin 2 => xΦ m c i (stg 2 i.val s.xn s.xw)
  | .xl => xlΦ m c (stg 1 0 (min s.xl 1) (s.xl - 1))
  | .wst => bigSep Finset.univ fun i : Fin 2 => wΦ m c i (stg 2 i.val s.wn s.ww)
  | .wf => bigSep Finset.univ fun i : Fin 8 => wfΦ m c i (decide (i.val < s.wb))
  | .acc => bigSep Finset.univ fun i : Fin 16 => accΦ m c i (accSt i.val s.t s.s)
  | .out => bigSep Finset.univ fun i : Fin 8 => outΦ m c i (stg 8 i.val s.s s.d)

/-- Device `c`'s state. -/
def St (c : Dev nD) (s : Cnt) : sProp 𝕄 := iprop(records m K ∗ bigSep Finset.univ (Comp m c s))

section Via
variable {m K} {c : Dev nD} {s s' : Cnt} {A B : sProp (MT nD τ sig Unit (Elt F) ℕ UU ℕ)}

theorem split1 {S : Finset Ct} (k : Ct) (hk : k ∈ S) (Φ : Ct → sProp 𝕄) : bigSep S Φ = iprop(Φ k ∗ bigSep (S.erase k) Φ) := by
  conv_lhs => rw [← Finset.insert_erase hk]
  exact bigSep_insert (Finset.notMem_erase k S)

/-- A step that changes one resource. -/
theorem via1 (k : Ct) (h : ∀ i, i ≠ k → Comp m c s' i = Comp m c s i)
    (hs : iprop(records m K ∗ Comp m c s k) ⊢ iprop((Comp m c s' k -∗ B) -∗ A)) (hn : St m K c s' ⊢ B) : St m K c s ⊢ A := by
  unfold St at hn ⊢
  rw [split1 k (Finset.mem_univ k)] at hn ⊢
  rw [bigSep_congr (s := Finset.univ.erase k) (Φ := Comp m c s') (Ψ := Comp m c s) fun i hi => h i (Finset.ne_of_mem_erase hi)] at hn
  iintro ⟨#HR, Hk, Hrest⟩
  iapply hs $$ [Hk]
  · isplitr; · iexact HR
    iexact Hk
  iintro Hk
  iapply hn
  isplitr; · iexact HR
  isplitl [Hk] <;> iassumption

/-- A step that reads the state only. -/
theorem via0 (k : Ct) (hs : iprop(records m K ∗ Comp m c s k) ⊢ iprop((Comp m c s k -∗ B) -∗ A)) (hn : St m K c s ⊢ B) : St m K c s ⊢ A :=
  via1 k (fun _ _ => rfl) hs hn

/-- A step that changes two resources. -/
theorem via2 (k l : Ct) (hl : l ∈ (Finset.univ : Finset Ct).erase k) (h : ∀ i, i ≠ k → i ≠ l → Comp m c s' i = Comp m c s i)
    (hs : iprop((records m K ∗ Comp m c s k) ∗ Comp m c s l) ⊢ iprop((iprop(Comp m c s' k ∗ Comp m c s' l) -∗ B) -∗ A)) (hn : St m K c s' ⊢ B) :
    St m K c s ⊢ A := by
  unfold St at hn ⊢
  rw [split1 k (Finset.mem_univ k), split1 l hl] at hn ⊢
  rw [bigSep_congr (s := (Finset.univ.erase k).erase l) (Φ := Comp m c s') (Ψ := Comp m c s)
    fun i hi => h i (Finset.ne_of_mem_erase (Finset.mem_of_mem_erase hi)) (Finset.ne_of_mem_erase hi)] at hn
  iintro ⟨#HR, Hk, Hl, Hrest⟩
  iapply hs $$ [Hk Hl]
  · isplitl [Hk]
    · isplitr; · iexact HR
      iexact Hk
    iexact Hl
  iintro ⟨Hk, Hl⟩
  iapply hn
  isplitr; · iexact HR
  isplitl [Hk]; · iexact Hk
  isplitl [Hl] <;> iassumption

/-- A step that changes three resources. -/
theorem via3 (k l n : Ct) (hl : l ∈ (Finset.univ : Finset Ct).erase k) (hn' : n ∈ ((Finset.univ : Finset Ct).erase k).erase l)
    (h : ∀ i, i ≠ k → i ≠ l → i ≠ n → Comp m c s' i = Comp m c s i)
    (hs : iprop(records m K ∗ Comp m c s k ∗ Comp m c s l ∗ Comp m c s n)
      ⊢ iprop((iprop(Comp m c s' k ∗ Comp m c s' l ∗ Comp m c s' n) -∗ B) -∗ A)) (hn : St m K c s' ⊢ B) :
    St m K c s ⊢ A := by
  unfold St at hn ⊢
  rw [split1 k (Finset.mem_univ k), split1 l hl, split1 n hn'] at hn ⊢
  rw [bigSep_congr (s := ((Finset.univ.erase k).erase l).erase n) (Φ := Comp m c s') (Ψ := Comp m c s)
    fun i hi => h i (Finset.ne_of_mem_erase (Finset.mem_of_mem_erase (Finset.mem_of_mem_erase hi)))
      (Finset.ne_of_mem_erase (Finset.mem_of_mem_erase hi)) (Finset.ne_of_mem_erase hi)] at hn
  iintro ⟨#HR, Hk, Hl, Hn, Hrest⟩
  iapply hs $$ [Hk Hl Hn]
  · isplitr; · iexact HR
    isplitl [Hk]; · iexact Hk
    isplitl [Hl] <;> iassumption
  iintro ⟨Hk, Hl, Hn⟩
  iapply hn
  isplitr; · iexact HR
  isplitl [Hk]; · iexact Hk
  isplitl [Hl]; · iexact Hl
  isplitl [Hn] <;> iassumption

/-- A step that changes one piece of a family. -/
theorem fam {ι S : Type} [Fintype ι] [DecidableEq ι] (Φ : ι → S → sProp 𝕄) (k : ι) (f g : ι → S) (h : ∀ i, i ≠ k → g i = f i) {R : sProp 𝕄}
    (hs : iprop(R ∗ Φ k (f k)) ⊢ iprop((Φ k (g k) -∗ B) -∗ A)) :
    iprop(R ∗ bigSep Finset.univ (fun i => Φ i (f i))) ⊢ iprop(((bigSep Finset.univ fun i => Φ i (g i)) -∗ B) -∗ A) := by
  iintro ⟨HR, HC⟩ Hk
  ihave HC' := (focus Φ k f g h) $$ HC
  icases HC' with ⟨Hf, Hback⟩
  iapply hs $$ [HR Hf]
  · isplitl [HR] <;> iassumption
  iintro Hg
  iapply Hk
  iapply Hback $$ Hg

/-- The same beside a resource `R` that becomes `R'`. -/
theorem fam' {ι S : Type} [Fintype ι] [DecidableEq ι] (Φ : ι → S → sProp 𝕄) (k : ι) (f g : ι → S) (h : ∀ i, i ≠ k → g i = f i) {R R' : sProp 𝕄}
    (hs : iprop(R ∗ Φ k (f k)) ⊢ iprop((iprop(R' ∗ Φ k (g k)) -∗ B) -∗ A)) :
    iprop(R ∗ bigSep Finset.univ (fun i => Φ i (f i))) ⊢ iprop((iprop(R' ∗ bigSep Finset.univ fun i => Φ i (g i)) -∗ B) -∗ A) := by
  iintro ⟨HR, HC⟩ Hk
  ihave HC' := (focus Φ k f g h) $$ HC
  icases HC' with ⟨Hf, Hback⟩
  iapply hs $$ [HR Hf]
  · isplitl [HR] <;> iassumption
  iintro ⟨HR, Hg⟩
  iapply Hk
  isplitl [HR]; · iexact HR
  iapply Hback $$ Hg

end Via

end Cert.KernelIdeal.A2A

end
-- ==== Proof.KernelIdeal.Deal.lean ====
/-
# What the launch deals

Each device is dealt, out of the launch: the invariants of all the protocol's cells, its own positions in them, the
tokens of the duties it pays, the credit for what it will receive, and the semaphores that stay outside the protocol.
-/
module

public import proofs.«01_k».proof.Proof.KernelIdeal.State

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families cut along other families -/

section Cut
variable {A B : Type} [Fintype A] [Fintype B]

theorem over (f : A → B) (hf : Function.Bijective f) (Φ : B → sProp 𝕄) :
    bigSep Finset.univ Φ = bigSep Finset.univ fun a => Φ (f a) := bigSep_univ_equiv (Equiv.ofBijective f hf) Φ

theorem over_sum (Φ : A ⊕ B → sProp 𝕄) :
    bigSep Finset.univ Φ = iprop((bigSep Finset.univ fun a => Φ (.inl a)) ∗ bigSep Finset.univ fun b => Φ (.inr b)) := bigSep_univ_sum Φ

theorem over_unit (Φ : Unit → sProp 𝕄) : bigSep Finset.univ Φ = Φ () := by
  rw [Finset.univ_unique, bigSep_singleton]

end Cut

/-- The cells under the protocol, seen from device `c`: the barrier's, the sends', those never paid, the arrivals'. -/
def kiIx (c : Dev nD) : Unit ⊕ (Fin 24 ⊕ (Fin 8 ⊕ Fin 24)) → KI
  | .inl _ => none
  | .inr (.inl i) => kSend i.val
  | .inr (.inr (.inl q)) => kRecv c q
  | .inr (.inr (.inr r)) => kRecv (src c (rj r.val).succ) (rq r.val)
theorem kiIx_bij : ∀ c, Function.Bijective (kiIx c) := by decide +kernel
theorem over_ki (c : Dev nD) (Φ : KI → sProp 𝕄) : bigSep Finset.univ Φ = iprop(Φ none ∗ (bigSep Finset.univ fun i : Fin 24 => Φ (kSend i.val))
    ∗ (bigSep Finset.univ fun q : Fin 8 => Φ (kRecv c q)) ∗ bigSep Finset.univ fun r : Fin 24 => Φ (kRecv (src c (rj r.val).succ) (rq r.val))) := by
  rw [over (kiIx c) (kiIx_bij c), over_sum, over_sum, over_sum, over_unit]; rfl

/-- The pieces of the block buffer, seen from device `c`: its own block's, and the arrivals'. -/
def dqIx (c : Dev nD) : Fin 8 ⊕ Fin 24 → Dev nD × Fin 8
  | .inl q => (src c 0, q)
  | .inr r => (src c (rj r.val).succ, rq r.val)
theorem dqIx_bij : ∀ c, Function.Bijective (dqIx c) := by decide +kernel
theorem over_dq (c : Dev nD) (Φ : Dev nD → Fin 8 → sProp 𝕄) : (bigSep Finset.univ fun d => bigSep Finset.univ fun q => Φ d q)
    = iprop((bigSep Finset.univ fun q : Fin 8 => Φ (src c 0) q) ∗ bigSep Finset.univ fun r : Fin 24 => Φ (src c (rj r.val).succ) (rq r.val)) := by
  rw [← bigSep_univ_prod (fun x : Dev nD × Fin 8 => Φ x.1 x.2), over (dqIx c) (dqIx_bij c), over_sum]; rfl

/-- The devices, seen from device `c`: itself and those it signals. -/
def peerIx (c : Dev nD) : Unit ⊕ Fin 3 → Dev nD
  | .inl _ => c
  | .inr i => peer c i
theorem peerIx_bij : ∀ c, Function.Bijective (peerIx c) := by decide +kernel
theorem over_dev (c : Dev nD) (Φ : Dev nD → sProp 𝕄) : bigSep Finset.univ Φ = iprop(Φ c ∗ bigSep Finset.univ fun i : Fin 3 => Φ (peer c i)) := by
  rw [over (peerIx c) (peerIx_bij c), over_sum, over_unit]; rfl

/-! ## The semaphores -/

/-- The kernel's own semaphores. -/
def osem (i : Fin 69) : SemLoc sig := .dma (ds i.val i.isLt)
theorem ownSemFacts : Pipeline.OwnSemFacts cfg0.spec osem := by decide

/-- The kernel's own semaphores by use: under the protocol; of the copies of `w`, of `x`, of the own block, of the result. -/
def semIx : Fin 56 ⊕ (Fin 2 ⊕ (Fin 2 ⊕ (Unit ⊕ Fin 8))) → Fin 69
  | .inl i => ⟨i.val, by omega⟩
  | .inr (.inl s) => ⟨56 + s.val, by omega⟩
  | .inr (.inr (.inl s)) => ⟨58 + s.val, by omega⟩
  | .inr (.inr (.inr (.inl _))) => ⟨60, by omega⟩
  | .inr (.inr (.inr (.inr q))) => ⟨61 + q.val, by omega⟩
theorem semIx_bij : Function.Bijective semIx := by decide +kernel
def optIx : Unit ⊕ Fin 56 → KI
  | .inl _ => none
  | .inr i => some i
theorem optIx_bij : Function.Bijective optIx := by decide +kernel

/-- The semaphores outside the protocol, at zero. -/
def exSems (F : FTy → Type) (c : Dev nD) : sProp (MT nD τ sig Unit (Elt F) ℕ UU ℕ) := iprop((bigSep Finset.univ fun s : Fin 2 => semVal (cell c (.dma (wS s))) 0)
  ∗ (bigSep Finset.univ fun s : Fin 2 => semVal (cell c (.dma (xS s))) 0) ∗ semVal (cell c (.dma xlS)) 0
  ∗ bigSep Finset.univ fun q : Fin 8 => semVal (cell c (.dma (oS q))) 0)

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sep_turn (A B C : sProp 𝕄) : iprop((A ∗ B) ∗ C) = iprop((C ∗ A) ∗ B) := by
  have h₁ : iprop((A ∗ B) ∗ C) ⊢ iprop((C ∗ A) ∗ B) := by
    iintro ⟨⟨H1, H2⟩, H3⟩
    isplitl [H1 H3]
    · isplitl [H3] <;> iassumption
    iexact H2
  have h₂ : iprop((C ∗ A) ∗ B) ⊢ iprop((A ∗ B) ∗ C) := by
    iintro ⟨⟨H3, H1⟩, H2⟩
    isplitr [H3]
    · isplitl [H1] <;> iassumption
    iexact H3
  exact equiv_iff.mp ⟨h₁, h₂⟩

/-- All of a device's semaphores at zero: the protocol's, and the others. -/
theorem sems_eq (c : Dev nD) : iprop(Pipeline.ownSems0 (Ix := Unit) (Name := ℕ) (U := UU) (Lvl := ℕ) (Val := Elt F) (τ := τ) osem c ∗ unscopedSems0 c)
    = (iprop((bigSep Finset.univ fun k : KI => semVal (kcell (c, k)) 0) ∗ exSems F c) : sProp 𝕄) := by
  have e : (Pipeline.ownSems0 (Ix := Unit) (Name := ℕ) (U := UU) (Lvl := ℕ) (Val := Elt F) (τ := τ) osem c : sProp 𝕄)
      = iprop((bigSep Finset.univ fun i : Fin 56 => semVal (kcell (c, some i)) 0) ∗ exSems F c) := by
    unfold Pipeline.ownSems0
    rw [over semIx semIx_bij, over_sum, over_sum, over_sum, over_sum, over_unit]; rfl
  rw [e, unscopedSems0_eq, over optIx optIx_bij, over_sum, over_unit]
  exact sep_turn _ _ _

/-! ## Cells and tokens -/

theorem ksem_injective : Function.Injective ksem := by decide +kernel
theorem kcell_injective : Function.Injective kcell := by
  rintro ⟨c, k⟩ ⟨c', k'⟩ h
  have h1 : c = c' := congrArg (fun g : GSem nD τ sig => g.1.1) h
  have h2 : ksem k = ksem k' := congrArg Prod.snd h
  rw [h1, ksem_injective h2]
def kCells : Finset (GSem nD τ sig) := Finset.univ.map ⟨kcell, kcell_injective⟩

/-- The duties device `c` pays: its signals, its sends' completions, its sends' arrivals. -/
def tokCell (c : Dev nD) : Fin 3 ⊕ (Fin 24 ⊕ Fin 24) → GSem nD τ sig
  | .inl i => barCell (peer c i)
  | .inr (.inl i) => sendCell c (bOf i.val) (qOf i.val)
  | .inr (.inr i) => recvCell (tgt c (bOf i.val)) c (qOf i.val)
/-- A number for each cell. -/
def cellNo (g : GSem nD τ sig) : ℕ := 100 * g.1.1.val + match g.2 with | .reg _ => 99 | .dma i => i.val
theorem tokCell_inj : ∀ c j j', cellNo (tokCell c j) = cellNo (tokCell c j') → j = j' := by decide +kernel
abbrev tokOf (cj : Dev nD × (Fin 3 ⊕ (Fin 24 ⊕ Fin 24))) : GSem nD τ sig × ℕ × Dev nD := (tokCell cj.1 cj.2, 0, cj.1)
theorem tokOf_injective : Function.Injective tokOf := by
  rintro ⟨c, j⟩ ⟨c', j'⟩ h
  have h1 : c = c' := congrArg (fun x : GSem nD τ sig × ℕ × Dev nD => x.2.2) h
  subst h1
  rw [tokCell_inj c j j' (congrArg (fun x : GSem nD τ sig × ℕ × Dev nD => cellNo x.1) h)]
def kToks : Finset (GSem nD τ sig × ℕ × Dev nD) := Finset.univ.map ⟨tokOf, tokOf_injective⟩

/-- The tokens device `c` pays with. -/
def payToks (F : FTy → Type) (c : Dev nD) : sProp (MT nD τ sig Unit (Elt F) ℕ UU ℕ) := iprop((bigSep Finset.univ fun i : Fin 3 => dutyTok ER (barCell (peer c i)) 0 c)
  ∗ (bigSep Finset.univ fun i : Fin 24 => dutyTok ER (sendCell c (bOf i.val) (qOf i.val)) 0 c)
  ∗ bigSep Finset.univ fun i : Fin 24 => dutyTok ER (recvCell (tgt c (bOf i.val)) c (qOf i.val)) 0 c)

/-- What the launch deals device `c`. -/
def G (c : Dev nD) : sProp 𝕄 :=
  iprop((bigSep Finset.univ fun k : KI => roundState ER (xRd m) (kcell (c, k)) 0)
    ∗ ((bigSep Finset.univ fun k : KI => atPos ER (kcell (c, k)) 0 ∅ 0) ∗ bigSep Finset.univ fun k : KI => reached ER (kcell (c, k)) 0) ∗ payToks F c)

def u₀ : UU := (initOf (Pipeline.cells cfgs cellOf_inj) (Pipeline.launchToks cfgs cellOf_inj), (initOf kCells kToks, 1))

theorem fund_kernel : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : KI => Φ (kcell (c, k)) := by
    unfold kCells; rw [bigSep_map, bigSep_univ_prod]; rfl
  have hT : bigSep kToks (fun x => (dutyTok ER x.1 x.2.1 x.2.2 : sProp 𝕄)) = bigSep Finset.univ fun c : Dev nD => payToks F c := by
    unfold kToks; rw [bigSep_map, bigSep_univ_prod]
    exact bigSep_congr fun c _ => by rw [over_sum, over_sum]; rfl
  iintro HX
  imod (Rounds.fund ER (xRd m) kCells kToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (show (ownU ((_, (_, 1)) : UU) : sProp 𝕄) ⊢ iprop(BI.own (EP (initOf (Pipeline.cells cfgs cellOf_inj) (Pipeline.launchToks cfgs cellOf_inj))) ∗ BI.own (ER (initOf kCells kToks))) from
    BI.own_op_elim ((uEmb (nD := nD) (sig := sig) (Ix := Unit) (Val := Elt F) (Name := ℕ) (U := UU) (Lvl := ℕ)).toEmb.op_of_mem
      (Prod.mk_mem_op (URA.mem_op_one _) (URA.mem_one_op (initOf kCells kToks, (1 : Counters)))))) $$ Hu
  icases H with ⟨HP, HX⟩
  imod (fund_kernel m) $$ HX with HG
  imodintro
  isplitl [HP] <;> iassumption

/-! ## The invariants -/

/-- What stays with device `c`: its positions, its tokens, and the semaphores outside the protocol. -/
def linear (F : FTy → Type) (c : Dev nD) : sProp (MT nD τ sig Unit (Elt F) ℕ UU ℕ) :=
  iprop((bigSep Finset.univ fun k : KI => atPos ER (kcell (c, k)) 0 ∅ 0) ∗ payToks F c ∗ exSems F c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => reached ER (kcell (c, k)) 0) ∗ linear F c) := by
  unfold G linear
  iintro ⟨Hos, Hus, Hst, ⟨Hat, Hre⟩, Htok⟩
  ihave Hv := (Entails.of_eq (sems_eq (F := F) c)) $$ [Hos Hus]
  · isplitl [Hos] <;> iassumption
  icases Hv with ⟨Hv, Hex⟩
  imod (show iprop((bigSep Finset.univ fun k : KI => semVal (kcell (c, k)) 0) ∗ bigSep Finset.univ fun k : KI => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Htok] <;> iassumption

/-- The invariants and what round each cell has reached, under names for the invariants. -/
def recs (K : Dev nD × KI → ℕ) : sProp 𝕄 :=
  iprop((bigSep Finset.univ fun ck : Dev nD × KI => cellInv ER (xRd m) (K ck) (kcell ck))
    ∗ bigSep Finset.univ fun ck : Dev nD × KI => reached ER (kcell ck) 0)
instance recs_persistent (K : Dev nD × KI → ℕ) : BI.Persistent (recs (F := F) m K) := by unfold recs; infer_instance

def G' (c : Dev nD) : sProp 𝕄 := iprop(∃ K, recs m K ∗ linear F c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (bigSep Finset.univ fun k => reached ER (kcell (c, k)) 0) ∗ linear F c) : sProp 𝕄)
      ⊢ bigSep Finset.univ (G' m) := by
  rw [bigSep_sep', bigSep_sep', ← bigSep_univ_prod (fun ck : Dev nD × KI => iprop(∃ κ : ℕ, cellInv ER (xRd m) κ (kcell ck))),
    ← bigSep_univ_prod (fun ck : Dev nD × KI => (reached ER (kcell ck) 0 : sProp 𝕄))]
  iintro ⟨HI, #HR, Hl⟩
  ihave HK := (BI.bigSep_exists_pi Finset.univ (fun (ck : Dev nD × KI) (κ : ℕ) => (cellInv ER (xRd m) κ (kcell ck) : sProp 𝕄))) $$ HI
  icases HK with ⟨%K, #HI⟩
  iapply (with_persistent (R := recs m K) (Φ := linear F) (Ψ := G' m) fun c _ => by
    unfold G'; iintro ⟨H1, H2⟩; iexists K; isplitl [H1] <;> iassumption)
  isplitr
  · unfold recs; isplitl; · iexact HI
    iexact HR
  · iexact Hl

/-- All devices' semaphores at once: the invariants made, and every device told of all of them. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How often device `d`'s last `k` sends go to device `c`'s cell for piece `q` from device `s`. -/
def cntS (d c s : Dev nD) (q : Fin 8) : ℕ → ℕ
  | 0 => 0
  | k + 1 => cntS d c s q k + if tgt d ⟨(23 - k) / 8 % 3, Nat.mod_lt _ (by decide)⟩ = c ∧ d = s ∧ (23 - k) % 8 = q.val then 1 else 0
/-- How often device `d`'s last `k` signals go to device `c`. -/
def cntB (d c : Dev nD) : ℕ → ℕ
  | 0 => 0
  | k + 1 => cntB d c k + if peer d ⟨(2 - k) % 3, Nat.mod_lt _ (by decide)⟩ = c then 1 else 0

theorem recv_eq_iff {a d c s : Dev nD} {q q' : Fin 8} : recvCell c s q = recvCell a d q' ↔ a = c ∧ d = s ∧ q'.val = q.val := by
  constructor
  · intro h
    have h1 : c = a := congrArg (fun g : GSem nD τ sig => g.1.1) h
    have h2 : 24 + 8 * s.val + q.val = 24 + 8 * d.val + q'.val := congrArg (fun g : GSem nD τ sig => match g.2 with | .reg _ => 0 | .dma i => i.val) h
    exact ⟨h1.symm, Fin.ext (by omega), by omega⟩
  · rintro ⟨rfl, rfl, h⟩; rw [Fin.ext h]
theorem bar_eq_iff {a b : Dev nD} : barCell a = barCell b ↔ b = a :=
  ⟨fun h => (congrArg (fun g : GSem nD τ sig => g.1.1) h).symm, fun h => by rw [h]⟩
theorem recv_ne_bar (a d c : Dev nD) (q : Fin 8) : recvCell a d q ≠ barCell c := fun h => by
  have := congrArg Prod.snd h; cases this

theorem owS_recv (d c s : Dev nD) (q : Fin 8) : ∀ k, owS d k (recvCell c s q) () = N * cntS d c s q k
  | 0 => by unfold owS cntS; rfl
  | k + 1 => by
    unfold owS cntS
    rw [Pi.add_apply, Finsupp.add_apply, owS_recv d c s q k, tallyAt_apply, Nat.mul_add]
    congr 1
    by_cases h : recvCell c s q = recvCell (tgt d ⟨(23 - k) / 8 % 3, Nat.mod_lt _ (by decide)⟩) d ⟨(23 - k) % 8, Nat.mod_lt _ (by decide)⟩
    · rw [if_pos ⟨h, rfl⟩, if_pos (recv_eq_iff.mp h), Nat.mul_one]
    · rw [if_neg fun h' => h h'.1, if_neg fun h' => h (recv_eq_iff.mpr h'), Nat.mul_zero]
theorem owB_bar (d c : Dev nD) : ∀ k, owB d k (barCell c) () = cntB d c k
  | 0 => by unfold owB cntB; rfl
  | k + 1 => by
    unfold owB cntB
    rw [Pi.add_apply, Finsupp.add_apply, owB_bar d c k, tallyAt_apply]
    congr 1
    by_cases h : barCell c = barCell (peer d ⟨(2 - k) % 3, Nat.mod_lt _ (by decide)⟩)
    · rw [if_pos ⟨h, rfl⟩, if_pos (bar_eq_iff.mp h)]
    · rw [if_neg fun h' => h h'.1, if_neg fun h' => h (bar_eq_iff.mpr h')]
theorem owS_bar (d c : Dev nD) (k : ℕ) : owS d k (barCell c) () = 0 :=
  Nat.eq_zero_of_not_pos fun h => by obtain ⟨a, q, e⟩ := owS_pos h; exact recv_ne_bar _ _ _ _ e.symm
theorem owB_recv (d c s : Dev nD) (q : Fin 8) (k : ℕ) : owB d k (recvCell c s q) () = 0 :=
  Nat.eq_zero_of_not_pos fun h => by obtain ⟨a, e⟩ := owB_pos h; exact recv_ne_bar _ _ _ _ e

theorem cntS_sum : ∀ (c : Dev nD) (r : Fin 24), ∑ d : Dev nD, cntS d c (src c (rj r.val).succ) (rq r.val) 24 = 1 := by decide +kernel
theorem cntB_sum : ∀ c : Dev nD, ∑ d : Dev nD, cntB d c 3 = 3 := by decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, ← cntB_sum c]
  exact Finset.sum_congr rfl fun d _ => by unfold O₀; rw [Pi.add_apply, Finsupp.add_apply, owS_bar, owB_bar, Nat.zero_add]

theorem launch_recv (c : Dev nD) (r : Fin 24) :
    tallyOn (recvCell c (src c (rj r.val).succ) (rq r.val)) (launchCredit (Pipeline.owing O₀) 0 (recvCell c (src c (rj r.val).succ) (rq r.val)))
      = (tallyAt (recvCell c (src c (rj r.val).succ) (rq r.val)) () N : CellTallies nD τ sig Unit) := by
  unfold tallyAt; refine congrArg _ (Finsupp.ext fun u => ?_); cases u
  rw [Pipeline.launchCredit_owing, Finsupp.single_eq_same]
  refine (Finset.sum_congr rfl fun d _ => show _ = N * cntS d c (src c (rj r.val).succ) (rq r.val) 24 from ?_).trans
    (by rw [← Finset.mul_sum, cntS_sum, Nat.mul_one])
  unfold O₀; rw [Pi.add_apply, Finsupp.add_apply, owS_recv, owB_recv, Nat.add_zero]

def credIx (c : Dev nD) (r : Fin 24) : SemLoc sig := .dma (recvS (src c (rj r.val).succ) (rq r.val))
theorem credIx_inj : ∀ c, Function.Injective (credIx c) := by decide +kernel

/-- The launch credits device `c`'s barrier cell its three signals, and each cell of an arrival the arrival. -/
theorem creds (c : Dev nD) : (Pipeline.launchCred O₀ c : sProp 𝕄) ⊢ iprop(cred (tallyAt (barCell c) () 3)
    ∗ bigSep Finset.univ fun r : Fin 24 => cred (tallyAt (recvCell c (src c (rj r.val).succ) (rq r.val)) () N)) := by
  unfold Pipeline.launchCred
  rw [bigSep_univ_at _ (SemLoc.reg barS), launch_bar]
  refine sep_mono_right ((bigSep_subset (t := Finset.univ.map ⟨credIx c, credIx_inj c⟩) fun x hx => ?_).trans ?_)
  · obtain ⟨r, -, rfl⟩ := Finset.mem_map.mp hx
    exact Finset.mem_erase.mpr ⟨(fun h => nomatch h), Finset.mem_univ _⟩
  · rw [bigSep_map]
    exact bigSep_mono fun r _ => Entails.of_eq (congrArg cred (launch_recv c r))

end Cert.KernelIdeal.A2A

end
-- ==== Proof.KernelIdeal.Split.lean ====
/-
# A buffer cut into rectangles

A memref owned outright is its rectangles owned each, and back: for rectangles that cover a rectangle of the buffer
(`parts`, `parts_join`), and for rectangles that cover all of it (`whole_parts_any`, `whole_join_any`).
-/
module

public import proofs.«01_k».proof.Proof.KernelIdeal.State

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts
variable (c : Dev nD) {sp : Space} {sh : Shape} {e : EltTy} (M : Memref sig .tc sp sh e) {T : Type} [Fintype T] [DecidableEq T]
variable (r : T → Rect sh) (hr : ∀ t a, (r t).stride a = 1) (hd : ∀ t t', t ≠ t' → Disjoint (r t).set (r t').set)

section Sub
variable (r₀ : Rect sh) (hr₀ : ∀ a, r₀.stride a = 1) (hcov : (Finset.univ : Finset T).biUnion (fun t => (r t).set) = r₀.set)
variable (em : ∀ t, (r t).shape.Idx → r₀.shape.Idx) (hem : ∀ t j, (r t).emb j = r₀.emb (em t j))
include hd hcov

theorem set_parts : (M.view.slice r₀).set = (Finset.univ : Finset T).biUnion fun t => (M.view.slice (r t)).set := by
  ext i
  rw [View.set_slice, ← hcov]
  simp only [View.set_slice, Finset.mem_map, Finset.mem_biUnion, Finset.mem_univ, true_and]
  exact ⟨fun ⟨a, ⟨t, h⟩, e⟩ => ⟨t, a, h, e⟩, fun ⟨t, a, h, e⟩ => ⟨a, ⟨t, h⟩, e⟩⟩

include hem

/-- A rectangle owned at `X`: each of the rectangles that cover it, owned at its part of `X`. -/
theorem parts (X : r₀.shape.Idx → Elt F e) :
    (own c (M.slice r₀ hr₀) X : sProp 𝕄) ⊢ bigSep Finset.univ fun t => own c (M.slice (r t) (hr t)) (fun j => X (em t j)) := by
  unfold own
  iintro H
  ihave H' := (show owns (c : Thread nD τ) (M.slice r₀ hr₀) fullShare X ⊢ (iprop(∃ g, ⌜(M.slice r₀ hr₀).view.read (Elt F) g = X⌝
    ∗ ((M.view.slice r₀).loc (c : Thread nD τ) ↦[(M.view.slice r₀).set]{fullShare} g)) : sProp 𝕄) from .rfl) $$ H
  icases H' with ⟨%g, %hg, H⟩
  have e₁ (t : T) : (owns (c : Thread nD τ) (M.slice (r t) (hr t)) fullShare (fun j => X (em t j)) : sProp 𝕄)
      = (M.view.loc (c : Thread nD τ) ↦[(M.view.slice (r t)).set]{fullShare} g) := by
    rw [← owns_slice_read (c : Thread nD τ) M fullShare (r t) (hr t) g]
    congr 1; funext j; rw [← hg, hem]; rfl
  rw [bigSep_congr (fun t _ => e₁ t), set_parts M r hd r₀ hcov]
  iapply (Entails.of_eq (pointsTo_biUnion (ℓ := M.view.loc (c : Thread nD τ)) _ _ fun t _ t' _ htt => by
    rw [View.set_slice, View.set_slice]; exact (Finset.disjoint_map _).mpr (hd t t' htt))) $$ H

/-- And back: the covering rectangles owned at `Xs` are the rectangle owned at contents with those parts. -/
theorem parts_join (Xs : ∀ t, (r t).shape.Idx → Elt F e) :
    bigSep Finset.univ (fun t => own c (M.slice (r t) (hr t)) (Xs t))
      ⊢ (iprop(∃ X : r₀.shape.Idx → Elt F e, ⌜∀ t j, X (em t j) = Xs t j⌝ ∗ own c (M.slice r₀ hr₀) X) : sProp 𝕄) := by
  classical
  let Y : sh.Idx → Elt F e := fun i => if h : ∃ t, ∃ j, (r t).emb j = i then Xs h.choose h.choose_spec.choose else Classical.arbitrary _
  have hY (t : T) (j) : Y ((r t).emb j) = Xs t j := by
    have h : ∃ t', ∃ j', (r t').emb j' = (r t).emb j := ⟨t, j, rfl⟩
    show dite _ _ _ = _
    rw [dif_pos h]
    have key : ∀ t' j', (r t').emb j' = (r t).emb j → Xs t' j' = Xs t j := by
      intro t' j' h'
      by_cases ht : t' = t
      · subst ht; rw [(r t').emb.injective h']
      · exact absurd (show (r t).emb j ∈ (r t').set from h' ▸ (by rw [← Rect.map_emb_univ]; exact Finset.mem_map_of_mem _ (Finset.mem_univ _)))
          (Finset.disjoint_right.mp (hd t' t ht) (by rw [← Rect.map_emb_univ]; exact Finset.mem_map_of_mem _ (Finset.mem_univ _)))
    exact key _ _ h.choose_spec.choose_spec
  rw [bigSep_congr (Ψ := fun t => own c (M.slice (r t) (hr t)) (fun j => Y ((r t).emb j))) (fun t _ => by simp only [hY])]
  refine (owns_rects_join (c : Thread nD τ) M fullShare r hr hd Y Finset.univ).trans ?_
  rw [← set_parts M r hd r₀ hcov]
  iintro ⟨%g, %hg, H⟩
  iexists fun j => M.view.read (Elt F) g (r₀.emb j)
  isplitr
  · ipureintro; intro t j; dsimp only; rw [← hem, hg t (Finset.mem_univ t) j, hY]
  · unfold own
    iapply (Entails.of_eq (owns_slice_read (c : Thread nD τ) M fullShare r₀ hr₀ g).symm) $$ H

theorem parts_any : (ownAny F c (M.slice r₀ hr₀) : sProp 𝕄) ⊢ bigSep Finset.univ fun t => ownAny F c (M.slice (r t) (hr t)) := by
  iintro ⟨%X, H⟩
  iapply (show (own c (M.slice r₀ hr₀) X : sProp 𝕄) ⊢ bigSep Finset.univ fun t => ownAny F c (M.slice (r t) (hr t)) from
    (parts c M r hr hd r₀ hr₀ hcov em hem X).trans (bigSep_mono fun t _ => own_any c _ _)) $$ H

theorem parts_join_any : bigSep Finset.univ (fun t => ownAny F c (M.slice (r t) (hr t))) ⊢ (ownAny F c (M.slice r₀ hr₀) : sProp 𝕄) := by
  refine (BI.bigSep_exists_pi Finset.univ (fun t X => own c (M.slice (r t) (hr t)) X)).trans ?_
  iintro ⟨%Xs, H⟩
  ihave H' := (parts_join c M r hr hd r₀ hr₀ hcov em hem Xs) $$ H
  icases H' with ⟨%X, -, H⟩
  iexists X; iexact H

end Sub

section Whole
variable (hcov : (Finset.univ : Finset T).biUnion (fun t => (r t).set) = Finset.univ)
include hd hcov

theorem whole_parts_any : (ownAny F c M : sProp 𝕄) ⊢ bigSep Finset.univ fun t => ownAny F c (M.slice (r t) (hr t)) := by
  iintro ⟨%X, H⟩
  iapply (show (own c M X : sProp 𝕄) ⊢ bigSep Finset.univ fun t => ownAny F c (M.slice (r t) (hr t)) from
    (owns_rects (c : Thread nD τ) M fullShare r hr hd hcov X).trans (bigSep_mono fun t _ => own_any c _ _)) $$ H

theorem whole_join_any : bigSep Finset.univ (fun t => ownAny F c (M.slice (r t) (hr t))) ⊢ (ownAny F c M : sProp 𝕄) := by
  refine (BI.bigSep_exists_pi Finset.univ (fun t X => own c (M.slice (r t) (hr t)) X)).trans ?_
  iintro ⟨%Xs, H⟩
  have hg (t : T) : (fun j => Rect.glue r hcov Xs ((r t).emb j)) = Xs t := funext fun y => Rect.glue_emb r hcov hd Xs t y
  iexists Rect.glue r hcov Xs
  iapply (owns_of_rects (c : Thread nD τ) M fullShare r hr hd hcov (Rect.glue r hcov Xs))
  simp only [hg]
  iexact H

end Whole
end Parts

/-! ## Rectangles of unit stride -/

/-- Two rectangles apart along an axis have no element in common. -/
theorem disj_unit {s : Shape} {off size off' size' : Fin s.rank → ℕ} {inb inb'} (a : Fin s.rank) (h : off a + size a ≤ off' a ∨ off' a + size' a ≤ off a) :
    Disjoint (Rect.unit (s := s) off size inb).set (Rect.unit (s := s) off' size' inb').set :=
  Finset.disjoint_left.mpr fun i hi hi' => by
    have h₁ := Rect.mem_set_unit.mp hi a
    have h₂ := Rect.mem_set_unit.mp hi' a
    omega

/-! ### Each buffer's -/

theorem cov_of {s : Shape} {T : Type} [Fintype T] (r : T → Rect s) (f : s.Idx → T) (h : ∀ i, i ∈ (r (f i)).set) :
    (Finset.univ : Finset T).biUnion (fun t => (r t).set) = Finset.univ := by
  classical
  ext i; exact ⟨fun _ => Finset.mem_univ _, fun _ => Finset.mem_biUnion.mpr ⟨f i, Finset.mem_univ _, h i⟩⟩

theorem mem3 {A B C : ℕ} {off size : Fin 3 → ℕ} {inb} {i : (⟨3, ![A, B, C]⟩ : Shape).Idx} (h₀ : off 0 ≤ (i 0).val ∧ (i 0).val < off 0 + size 0)
    (h₁ : off 1 ≤ (i 1).val ∧ (i 1).val < off 1 + size 1) (h₂ : off 2 ≤ (i 2).val ∧ (i 2).val < off 2 + size 2) :
    i ∈ (Rect.unit (s := ⟨3, ![A, B, C]⟩) off size inb).set :=
  Rect.mem_set_unit.mpr fun a => by fin_cases a <;> assumption

theorem mem2 {A B : ℕ} {off size : Fin 2 → ℕ} {inb} {i : (⟨2, ![A, B]⟩ : Shape).Idx} (h₀ : off 0 ≤ (i 0).val ∧ (i 0).val < off 0 + size 0)
    (h₁ : off 1 ≤ (i 1).val ∧ (i 1).val < off 1 + size 1) : i ∈ (Rect.unit (s := ⟨2, ![A, B]⟩) off size inb).set :=
  Rect.mem_set_unit.mpr fun a => by fin_cases a <;> assumption

/-- The four slots of the block buffer. -/
theorem cb_disj (d d' : Dev nD) (h : d ≠ d') : Disjoint (cbR d).set (cbR d').set :=
  disj_unit 0 (by have : d.val ≠ d'.val := fun e => h (Fin.ext e); show d.val + 1 ≤ d'.val ∨ d'.val + 1 ≤ d.val; omega)
theorem cb_cov : (Finset.univ : Finset (Dev nD)).biUnion (fun d => (cbR d).set) = Finset.univ :=
  cov_of _ (fun i => ⟨(i 0).val, (i 0).isLt⟩) fun i => by
    have h₁ : (i 1).val < 1024 := (i 1).isLt
    have h₂ : (i 2).val < 1024 := (i 2).isLt
    exact mem3 ⟨le_refl _, Nat.lt_succ_self _⟩ ⟨Nat.zero_le _, by show _ < 0 + 1024; omega⟩ ⟨Nat.zero_le _, by show _ < 0 + 1024; omega⟩

/-- The eight pieces of a slot. -/
theorem cp_disj (d : Dev nD) (q q' : Fin 8) (h : q ≠ q') : Disjoint (cR d q).set (cR d q').set :=
  disj_unit 1 (by have : q.val ≠ q'.val := fun e => h (Fin.ext e); show 128 * q.val + 128 ≤ 128 * q'.val ∨ 128 * q'.val + 128 ≤ 128 * q.val; omega)
theorem cp_cov (d : Dev nD) : (Finset.univ : Finset (Fin 8)).biUnion (fun q => (cR d q).set) = (cbR d).set := by
  ext i
  have h₁ : (i 1).val < 1024 := (i 1).isLt
  have h₂ : (i 2).val < 1024 := (i 2).isLt
  constructor
  · intro hi
    obtain ⟨q, -, hi⟩ := Finset.mem_biUnion.mp hi
    have h := Rect.mem_set_unit.mp hi
    exact mem3 (h 0) ⟨Nat.zero_le _, by show _ < 0 + 1024; omega⟩ (h 2)
  · intro hi
    have h := Rect.mem_set_unit.mp hi
    refine Finset.mem_biUnion.mpr ⟨⟨(i 1).val / 128, by omega⟩, Finset.mem_univ _, mem3 (h 0) ⟨?_, ?_⟩ (h 2)⟩
    · show 128 * ((i 1).val / 128) ≤ _; omega
    · show _ < 128 * ((i 1).val / 128) + 128; omega
/-- Where piece `q` of a slot is in the slot. -/
abbrev cqR (q : Fin 8) : Rect S1x1024x1024 := Rect.unit (s := S1x1024x1024) ![0, 128 * q.val, 0] S1x128x1024.size (by revert q; decide +kernel)
theorem cp_em (d : Dev nD) (q : Fin 8) (j : (cR d q).shape.Idx) : (cR d q).emb j = (cbR d).emb ((cqR q).emb j) := funext fun a => Fin.ext (by
  fin_cases a
  · show d.val + 1 * (j 0).val = d.val + 1 * (0 + 1 * (j 0).val); omega
  · show 128 * q.val + 1 * (j 1).val = 0 + 1 * (128 * q.val + 1 * (j 1).val); omega
  · show 0 + 1 * (j 2).val = 0 + 1 * (0 + 1 * (j 2).val); omega)

/-- The pieces of the send buffer. -/
theorem sp_disj (i i' : Fin 24) (h : i ≠ i') : Disjoint (sR (bOf i.val) (qOf i.val)).set (sR (bOf i'.val) (qOf i'.val)).set := by
  have hne : i.val ≠ i'.val := fun e => h (Fin.ext e)
  by_cases hb : i.val / 8 % 3 = i'.val / 8 % 3
  · exact disj_unit 1 (by show 128 * (i.val % 8) + 128 ≤ 128 * (i'.val % 8) ∨ 128 * (i'.val % 8) + 128 ≤ 128 * (i.val % 8); omega)
  · exact disj_unit 0 (by show i.val / 8 % 3 + 1 ≤ i'.val / 8 % 3 ∨ i'.val / 8 % 3 + 1 ≤ i.val / 8 % 3; omega)
theorem sp_cov : (Finset.univ : Finset (Fin 24)).biUnion (fun i => (sR (bOf i.val) (qOf i.val)).set) = Finset.univ :=
  cov_of _ (fun i => ⟨8 * (i 0).val + (i 1).val / 128, by
      have h₀ : (i 0).val < 3 := (i 0).isLt
      have h₁ : (i 1).val < 1024 := (i 1).isLt
      omega⟩) fun i => by
    have h₀ : (i 0).val < 3 := (i 0).isLt
    have h₁ : (i 1).val < 1024 := (i 1).isLt
    have h₂ : (i 2).val < 1024 := (i 2).isLt
    refine mem3 ⟨?_, ?_⟩ ⟨?_, ?_⟩ ⟨Nat.zero_le _, by show _ < 0 + 1024; omega⟩
    · show (8 * (i 0).val + (i 1).val / 128) / 8 % 3 ≤ _; omega
    · show _ < (8 * (i 0).val + (i 1).val / 128) / 8 % 3 + 1; omega
    · show 128 * ((8 * (i 0).val + (i 1).val / 128) % 8) ≤ _; omega
    · show _ < 128 * ((8 * (i 0).val + (i 1).val / 128) % 8) + 128; omega

/-- The two slots of a staging buffer. -/
theorem xs_disj (s s' : Fin 2) (h : s ≠ s') : Disjoint (xsR s).set (xsR s').set :=
  disj_unit 0 (by have : s.val ≠ s'.val := fun e => h (Fin.ext e); show s.val + 1 ≤ s'.val ∨ s'.val + 1 ≤ s.val; omega)
theorem xs_cov : (Finset.univ : Finset (Fin 2)).biUnion (fun s => (xsR s).set) = Finset.univ :=
  cov_of _ (fun i => ⟨(i 0).val, (i 0).isLt⟩) fun i => by
    have h₁ : (i 1).val < 128 := (i 1).isLt
    have h₂ : (i 2).val < 1024 := (i 2).isLt
    exact mem3 ⟨le_refl _, Nat.lt_succ_self _⟩ ⟨Nat.zero_le _, by show _ < 0 + 128; omega⟩ ⟨Nat.zero_le _, by show _ < 0 + 1024; omega⟩
theorem wb_disj (s s' : Fin 2) (h : s ≠ s') : Disjoint (wbR s).set (wbR s').set :=
  disj_unit 0 (by have : s.val ≠ s'.val := fun e => h (Fin.ext e); show s.val + 1 ≤ s'.val ∨ s'.val + 1 ≤ s.val; omega)
theorem wb_cov : (Finset.univ : Finset (Fin 2)).biUnion (fun s => (wbR s).set) = Finset.univ :=
  cov_of _ (fun i => ⟨(i 0).val, (i 0).isLt⟩) fun i => by
    have h₁ : (i 1).val < 1024 := (i 1).isLt
    have h₂ : (i 2).val < 1024 := (i 2).isLt
    exact mem3 ⟨le_refl _, Nat.lt_succ_self _⟩ ⟨Nat.zero_le _, by show _ < 0 + 1024; omega⟩ ⟨Nat.zero_le _, by show _ < 0 + 1024; omega⟩
/-- The eight factors. -/
theorem wf_disj (s s' : Fin 8) (h : s ≠ s') : Disjoint (wfR s).set (wfR s').set :=
  disj_unit 0 (by have : s.val ≠ s'.val := fun e => h (Fin.ext e); show s.val + 1 ≤ s'.val ∨ s'.val + 1 ≤ s.val; omega)
theorem wf_cov : (Finset.univ : Finset (Fin 8)).biUnion (fun s => (wfR s).set) = Finset.univ :=
  cov_of _ (fun i => ⟨(i 0).val, (i 0).isLt⟩) fun i => by
    have h₁ : (i 1).val < 1024 := (i 1).isLt
    have h₂ : (i 2).val < 1024 := (i 2).isLt
    exact mem3 ⟨le_refl _, Nat.lt_succ_self _⟩ ⟨Nat.zero_le _, by show _ < 0 + 1024; omega⟩ ⟨Nat.zero_le _, by show _ < 0 + 1024; omega⟩

/-- The accumulator's sixteen pieces, its eight rows of two, and the result's eight. -/
theorem ap_disj (i i' : Fin 16) (h : i ≠ i') : Disjoint (aR (tq i.val) (th i.val)).set (aR (tq i'.val) (th i'.val)).set := by
  have hne : i.val ≠ i'.val := fun e => h (Fin.ext e)
  have e₁ : (tq i.val).val = i.val / 2 := by show (if i.val < 16 then i.val / 2 else _) % 8 = _; rw [if_pos i.isLt]; omega
  have e₂ : (tq i'.val).val = i'.val / 2 := by show (if i'.val < 16 then i'.val / 2 else _) % 8 = _; rw [if_pos i'.isLt]; omega
  by_cases hb : i.val / 2 = i'.val / 2
  · exact disj_unit 1 (by show 1024 * (i.val % 2) + 1024 ≤ 1024 * (i'.val % 2) ∨ 1024 * (i'.val % 2) + 1024 ≤ 1024 * (i.val % 2); omega)
  · exact disj_unit 0 (by show 128 * (tq i.val).val + 128 ≤ 128 * (tq i'.val).val ∨ 128 * (tq i'.val).val + 128 ≤ 128 * (tq i.val).val; omega)
theorem ap_cov : (Finset.univ : Finset (Fin 16)).biUnion (fun i => (aR (tq i.val) (th i.val)).set) = Finset.univ :=
  cov_of _ (fun i => ⟨2 * ((i 0).val / 128) + (i 1).val / 1024, by
      have h₀ : (i 0).val < 1024 := (i 0).isLt
      have h₁ : (i 1).val < 2048 := (i 1).isLt
      omega⟩) fun i => by
    have h₀ : (i 0).val < 1024 := (i 0).isLt
    have h₁ : (i 1).val < 2048 := (i 1).isLt
    have e₁ : (tq (2 * ((i 0).val / 128) + (i 1).val / 1024)).val = (i 0).val / 128 := by
      show (if 2 * ((i 0).val / 128) + (i 1).val / 1024 < 16 then _ else _) % 8 = _; rw [if_pos (by omega)]; omega
    refine mem2 ⟨?_, ?_⟩ ⟨?_, ?_⟩
    · show 128 * (tq (2 * ((i 0).val / 128) + (i 1).val / 1024)).val ≤ _; omega
    · show _ < 128 * (tq (2 * ((i 0).val / 128) + (i 1).val / 1024)).val + 128; omega
    · show 1024 * ((2 * ((i 0).val / 128) + (i 1).val / 1024) % 2) ≤ _; omega
    · show _ < 1024 * ((2 * ((i 0).val / 128) + (i 1).val / 1024) % 2) + 1024; omega
theorem o_disj (q q' : Fin 8) (h : q ≠ q') : Disjoint (oR q).set (oR q').set :=
  disj_unit 0 (by have : q.val ≠ q'.val := fun e => h (Fin.ext e); show 128 * q.val + 128 ≤ 128 * q'.val ∨ 128 * q'.val + 128 ≤ 128 * q.val; omega)
theorem o_cov : (Finset.univ : Finset (Fin 8)).biUnion (fun q => (oR q).set) = Finset.univ :=
  cov_of _ (fun i => ⟨(i 0).val / 128, by have h₀ : (i 0).val < 1024 := (i 0).isLt; omega⟩) fun i => by
    have h₁ : (i 1).val < 2048 := (i 1).isLt
    refine mem2 ⟨?_, ?_⟩ ⟨Nat.zero_le _, by show _ < 0 + 2048; omega⟩
    · show 128 * ((i 0).val / 128) ≤ _; omega
    · show _ < 128 * ((i 0).val / 128) + 128; omega

/-- Eight rows of the accumulator are two pieces. -/
theorem ah_disj (q : Fin 8) (h h' : Fin 2) (hh : h ≠ h') : Disjoint (aR q h).set (aR q h').set :=
  disj_unit 1 (by have : h.val ≠ h'.val := fun e => hh (Fin.ext e); show 1024 * h.val + 1024 ≤ 1024 * h'.val ∨ 1024 * h'.val + 1024 ≤ 1024 * h.val; omega)
theorem ah_cov (q : Fin 8) : (Finset.univ : Finset (Fin 2)).biUnion (fun h => (aR q h).set) = (oR q).set := by
  ext i
  have h₁ : (i 1).val < 2048 := (i 1).isLt
  constructor
  · intro hi
    obtain ⟨p, -, hi⟩ := Finset.mem_biUnion.mp hi
    have h := Rect.mem_set_unit.mp hi
    exact mem2 (h 0) ⟨Nat.zero_le _, by show _ < 0 + 2048; omega⟩
  · intro hi
    have h := Rect.mem_set_unit.mp hi
    refine Finset.mem_biUnion.mpr ⟨⟨(i 1).val / 1024, by omega⟩, Finset.mem_univ _, mem2 (h 0) ⟨?_, ?_⟩⟩
    · show 1024 * ((i 1).val / 1024) ≤ _; omega
    · show _ < 1024 * ((i 1).val / 1024) + 1024; omega
abbrev ahR (h : Fin 2) : Rect S128x2048 := Rect.unit (s := S128x2048) ![0, 1024 * h.val] S128x1024.size (by revert h; decide +kernel)
theorem ah_em (q : Fin 8) (h : Fin 2) (j : (aR q h).shape.Idx) : (aR q h).emb j = (oR q).emb ((ahR h).emb j) := funext fun a => Fin.ext (by
  fin_cases a
  · show 128 * q.val + 1 * (j 0).val = 128 * q.val + 1 * (0 + 1 * (j 0).val); omega
  · show 1024 * h.val + 1 * (j 1).val = 0 + 1 * (1024 * h.val + 1 * (j 1).val); omega)

end Cert.KernelIdeal.A2A

end
-- ==== Proof.KernelIdeal.Enter.lean ====
/-
# Entering the kernel

What the launch gives a device, its scratch buffers and its arrays cut into the pieces the kernel works on, is the
state with all counters zero (`enter`).
-/
module

public import proofs.«01_k».proof.Proof.KernelIdeal.Deal
public import proofs.«01_k».proof.Proof.KernelIdeal.Split

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kinds of resources listed -/

theorem over_ct (Φ : Ct → sProp 𝕄) : bigSep Finset.univ Φ = iprop(Φ .ow ∗ Φ .sig ∗ Φ .bar ∗ Φ .dst ∗ Φ .snd ∗ Φ .rcv ∗ Φ .ownb ∗ Φ .ownr ∗ Φ .xst ∗ Φ .xl
    ∗ Φ .wst ∗ Φ .wf ∗ Φ .acc ∗ Φ .out) :=
  (bigSep_univ_eq_bigSepL (I := Ct) [.ow, .sig, .bar, .dst, .snd, .rcv, .ownb, .ownr, .xst, .xl, .wst, .wf, .acc, .out] (by decide) (by decide) Φ).trans rfl

/-! ## Whole buffers -/

theorem own_whole (c : Dev nD) (b : Ref sig .tc) (X : b.ty.Contents (Elt F)) :
    (own c (Memref.whole b) X : sProp 𝕄) = iprop(∃ f : Buf (Elt F) ((c : Thread nD τ).loc b), ⌜f = X⌝ ∗ (((c : Thread nD τ).loc b) ↦{fullShare} f)) := by
  unfold own owns; simp only [Memref.view_whole, View.read_whole, View.set_whole]

theorem own_of_pts (c : Dev nD) (b : Ref sig .tc) :
    (iprop(∃ f : Buf (Elt F) ((c : Thread nD τ).loc b), ((c : Thread nD τ).loc b) ↦{fullShare} f) : sProp 𝕄) ⊢ ownAny F c (Memref.whole b) := by
  iintro ⟨%f, H⟩
  iexists f
  rw [own_whole]
  iexists f
  isplitr; · (ipureintro; rfl)
  iexact H

theorem pts_of_own (c : Dev nD) (b : Ref sig .tc) :
    ownAny F c (Memref.whole b) ⊢ (iprop(∃ f : Buf (Elt F) ((c : Thread nD τ).loc b), ((c : Thread nD τ).loc b) ↦{fullShare} f) : sProp 𝕄) := by
  iintro ⟨%X, H⟩
  ihave H' := (Entails.of_eq (own_whole (F := F) c b X)) $$ H
  icases H' with ⟨%f, -, H⟩
  iexists f; iexact H

/-! ## The shares of the arguments -/

theorem x_shares (c : Dev nD) : (xPts m c fullShare : sProp 𝕄) ⊣⊢ iprop((bigSep Finset.univ fun s : Fin 2 => xPts m c (shx s)) ∗ xPts m c shl) := by
  have e : (bigSep Finset.univ fun s : Fin 2 => xPts m c (shx s)) = iprop(xPts m c fullShare.left ∗ xPts m c fullShare.right.left) := bigSep_fin_two _
  have h₁ : (xPts m c fullShare : sProp 𝕄) ⊣⊢ iprop(xPts m c fullShare.left ∗ xPts m c fullShare.right) := pointsTo_share (PosShare.mem_left_op_right _)
  have h₂ : (xPts m c fullShare.right : sProp 𝕄) ⊣⊢ iprop(xPts m c fullShare.right.left ∗ xPts m c fullShare.right.right) :=
    pointsTo_share (PosShare.mem_left_op_right _)
  rw [e]
  refine ⟨(h₁.1.trans (sep_mono_right h₂.1)).trans ?_, .trans ?_ ((sep_mono_right h₂.2).trans h₁.2)⟩
  · iintro ⟨H1, H2, H3⟩
    isplitr [H3]
    · isplitl [H1] <;> iassumption
    iexact H3
  · iintro ⟨⟨H1, H2⟩, H3⟩
    isplitl [H1]; · iexact H1
    isplitl [H2]; · iexact H2
    iexact H3

theorem w_shares (c : Dev nD) : (wPts m c fullShare : sProp 𝕄) ⊣⊢ (bigSep Finset.univ fun s : Fin 2 => wPts m c (shw s)) := by
  have e : (bigSep Finset.univ fun s : Fin 2 => wPts m c (shw s)) = iprop(wPts m c fullShare.left ∗ wPts m c fullShare.right) := bigSep_fin_two _
  rw [e]
  exact pointsTo_share (PosShare.mem_left_op_right _)

/-! ## The entry -/

abbrev oLoc (c : Dev nD) : Loc nD τ sig := (c : Thread nD τ).loc main_v1

/-- What device `c` enters the kernel with, its scratch buffers apart. -/
def start (c : Dev nD) : sProp 𝕄 := iprop(G' m c ∗ (cred (tallyAt (barCell c) () 3)
    ∗ bigSep Finset.univ fun r : Fin 24 => cred (tallyAt (recvCell c (src c (rj r.val).succ) (rq r.val)) () N)) ∗ levAts L lv
    ∗ xPts m c fullShare ∗ wPts m c fullShare ∗ (oLoc c ↦{fullShare} m (oLoc c)))

/-- The block buffer's slots: the own one, and those handed over with the signals. -/
theorem blocks_enter (c : Dev nD) : (ownAny F c cM : sProp 𝕄) ⊢ iprop(ownAny F c (cB c) ∗ bigSep Finset.univ fun i : Fin 3 => barPay F (peer c i) c) := by
  refine (whole_parts_any c cM cbR (fun _ _ => rfl) cb_disj cb_cov).trans ?_
  rw [over_dev c]
  exact sep_mono_right (bigSep_mono fun i _ => parts_any c cM (cR (peer c i)) (fun _ _ => rfl) (cp_disj _) (cbR (peer c i)) (fun _ => rfl) (cp_cov _)
    (fun q => (cqR q).emb) (cp_em _))

section Zero
variable (c : Dev nD)

/-- No progress. -/
abbrev z₀ : Cnt := ⟨0, 0, 0, 0, 0, 0, 0, 0, 0, 0, 0, 0, 0, 0, 0, 0⟩

theorem z_sig : (Comp m c z₀ .sig : sProp 𝕄) = iprop((bigSep Finset.univ fun i : Fin 3 => dutyTok ER (barCell (peer c i)) 0 c) ∗ bigSep Finset.univ fun i : Fin 3 => barPay F (peer c i) c) := by
  rw [← bigSep_sep']
  exact bigSep_congr fun i _ => congrArg (sigΦ c i) (decide_eq_false (Nat.not_lt_zero _))
theorem z_ow : (Comp m c z₀ .ow : sProp 𝕄) = iprop(∃ W, owes (c : Thread nD τ) (O₀ c) W) := rfl
theorem z_ownb : (Comp m c z₀ .ownb : sProp 𝕄) = ownAny F c (cB c) := rfl
theorem z_ownr : (Comp m c z₀ .ownr : sProp 𝕄) = bigSep Finset.univ fun q : Fin 8 => atPos ER (recvCell c c q) 0 ∅ 0 := rfl
theorem z_bar : (Comp m c z₀ .bar : sProp 𝕄) = iprop(cred (tallyAt (barCell c) () 3) ∗ atPos ER (barCell c) 0 ∅ 0) := rfl
theorem z_dst : (Comp m c z₀ .dst : sProp 𝕄) = iprop(emp) := by
  refine .trans ?_ (bigSep_emp_const (Finset.univ : Finset (Fin 24)))
  exact bigSep_congr fun i _ => congrArg (dstΦ c i) (decide_eq_false fun h => Nat.lt_irrefl 0 h.1)
theorem z_snd : (Comp m c z₀ .snd : sProp 𝕄) = iprop((bigSep Finset.univ fun i : Fin 24 => ownAny F c (sP (bOf i.val) (qOf i.val)))
    ∗ (bigSep Finset.univ fun i : Fin 24 => dutyTok ER (sendCell c (bOf i.val) (qOf i.val)) 0 c)
    ∗ (bigSep Finset.univ fun i : Fin 24 => dutyTok ER (recvCell (tgt c (bOf i.val)) c (qOf i.val)) 0 c)
    ∗ bigSep Finset.univ fun i : Fin 24 => atPos ER (sendCell c (bOf i.val) (qOf i.val)) 0 ∅ 0) := by
  rw [← bigSep_sep', ← bigSep_sep', ← bigSep_sep']
  exact bigSep_congr fun i _ => rfl
theorem z_rcv : (Comp m c z₀ .rcv : sProp 𝕄) = iprop((bigSep Finset.univ fun r : Fin 24 => cred (tallyAt (recvCell c (src c (rj r.val).succ) (rq r.val)) () N))
    ∗ bigSep Finset.univ fun r : Fin 24 => atPos ER (recvCell c (src c (rj r.val).succ) (rq r.val)) 0 ∅ 0) := by
  rw [← bigSep_sep']
  exact bigSep_congr fun i _ => congrArg (rcvΦ m c i) (decide_eq_false (Nat.not_lt_zero _))
theorem z_xst : (Comp m c z₀ .xst : sProp 𝕄) = iprop((bigSep Finset.univ fun s : Fin 2 => xPts m c (shx s)) ∗ (bigSep Finset.univ fun s : Fin 2 => ownAny F c (xsP s))
    ∗ bigSep Finset.univ fun s : Fin 2 => semVal (cell c (.dma (xS s))) 0) := by
  rw [← bigSep_sep', ← bigSep_sep']
  exact bigSep_congr fun i _ => congrArg (xΦ m c i) (if_pos (Nat.zero_le _))
theorem z_xl : (Comp m c z₀ .xl : sProp 𝕄) = iprop(xPts m c shl ∗ ownAny F c xlM ∗ semVal (cell c (.dma xlS)) 0) := rfl
theorem z_wst : (Comp m c z₀ .wst : sProp 𝕄) = iprop((bigSep Finset.univ fun s : Fin 2 => wPts m c (shw s)) ∗ (bigSep Finset.univ fun s : Fin 2 => ownAny F c (wbP s))
    ∗ bigSep Finset.univ fun s : Fin 2 => semVal (cell c (.dma (wS s))) 0) := by
  rw [← bigSep_sep', ← bigSep_sep']
  exact bigSep_congr fun i _ => congrArg (wΦ m c i) (if_pos (Nat.zero_le _))
theorem z_wf : (Comp m c z₀ .wf : sProp 𝕄) = bigSep Finset.univ fun i : Fin 8 => ownAny F c (wfP i) :=
  bigSep_congr fun i _ => congrArg (wfΦ m c i) (decide_eq_false (Nat.not_lt_zero _))
theorem z_acc : (Comp m c z₀ .acc : sProp 𝕄) = bigSep Finset.univ fun i : Fin 16 => ownAny F c (aP (tq i.val) (th i.val)) :=
  bigSep_congr fun i _ => congrArg (accΦ m c i) (show accSt i.val 0 0 = some 0 from by unfold accSt alev; rw [if_neg (Nat.not_lt_zero _), if_pos (Nat.zero_le _)])
theorem z_out : (Comp m c z₀ .out : sProp 𝕄) = iprop((bigSep Finset.univ fun q : Fin 8 => ownAny F c (oP q)) ∗ bigSep Finset.univ fun q : Fin 8 => semVal (cell c (.dma (oS q))) 0) := by
  rw [← bigSep_sep']
  exact bigSep_congr fun i _ => congrArg (outΦ m c i) (if_pos (Nat.zero_le _))

end Zero

/-- Entering the kernel. -/
theorem enter (c : Dev nD) : iprop(start m c ∗ Pipeline.scopedRest cfg0.spec c ∗ ∃ W, owes (c : Thread nD τ) (O₀ c) W)
    ⊢ (iprop(∃ K, St m K c z₀) : sProp 𝕄) := by
  rw [scopedRest0_eq]
  unfold start G' linear payToks exSems
  iintro ⟨⟨⟨%K, #HR, Hat, ⟨Ht1, Ht2, Ht3⟩, Hv1, Hv2, Hv3, Hv4⟩, ⟨Hcb, Hcr⟩, #Hlev, Hx, Hw, Ho⟩, ⟨Hs0, Hs1, Hs2, Hs3, Hs4, Hs5, Hs6⟩, Hd⟩
  iexists K
  ihave Hat' := (Entails.of_eq (over_ki c fun k => (atPos ER (kcell (c, k)) 0 ∅ 0 : sProp 𝕄))) $$ Hat
  icases Hat' with ⟨Hab, Has, Hao, Har⟩
  ihave Hx' := (x_shares m c).1 $$ Hx
  icases Hx' with ⟨Hx, Hxl⟩
  ihave Hw := (w_shares m c).1 $$ Hw
  ihave Hs0 := ((own_of_pts (F := F) c cc0_scratch0).trans (blocks_enter c)) $$ Hs0
  icases Hs0 with ⟨Hcb0, Hcp⟩
  ihave Hs1 := ((own_of_pts (F := F) c cc0_scratch1).trans (whole_parts_any c sM (fun i : Fin 24 => sR (bOf i.val) (qOf i.val)) (fun _ _ => rfl) sp_disj sp_cov)) $$ Hs1
  ihave Hs2 := ((own_of_pts (F := F) c cc0_scratch2).trans (whole_parts_any c xsM xsR (fun _ _ => rfl) xs_disj xs_cov)) $$ Hs2
  ihave Hs3 := (own_of_pts (F := F) c cc0_scratch3) $$ Hs3
  ihave Hs4 := ((own_of_pts (F := F) c cc0_scratch4).trans (whole_parts_any c wbM wbR (fun _ _ => rfl) wb_disj wb_cov)) $$ Hs4
  ihave Hs5 := ((own_of_pts (F := F) c cc0_scratch5).trans (whole_parts_any c wfM wfR (fun _ _ => rfl) wf_disj wf_cov)) $$ Hs5
  ihave Hs6 := ((own_of_pts (F := F) c cc0_scratch6).trans (whole_parts_any c aM (fun i : Fin 16 => aR (tq i.val) (th i.val)) (fun _ _ => rfl) ap_disj ap_cov)) $$ Hs6
  ihave Ho := (show (oLoc c ↦{fullShare} m (oLoc c)) ⊢ (bigSep Finset.univ fun q => ownAny F c (oP q) : sProp 𝕄) from
    .trans (by iintro H; iexists _; iexact H) ((own_of_pts (F := F) c main_v1).trans (whole_parts_any c oM oR (fun _ _ => rfl) o_disj o_cov))) $$ Ho
  unfold St
  isplitr
  · unfold records recs
    icases HR with ⟨#H1, #H2⟩
    isplitr; · iexact H1
    isplitr; · iexact H2
    iexact Hlev
  rw [over_ct, z_ow, z_sig, z_bar, z_dst, z_snd, z_rcv, z_ownb, z_ownr, z_xst, z_xl, z_wst, z_wf, z_acc, z_out]
  isplitl [Hd]; · iexact Hd
  isplitl [Ht1 Hcp]
  · isplitl [Ht1] <;> iassumption
  isplitl [Hcb Hab]
  · isplitl [Hcb]; · iexact Hcb
    iexact Hab
  isplitr
  · iempintro
  isplitl [Hs1 Ht2 Ht3 Has]
  · isplitl [Hs1]; · iexact Hs1
    isplitl [Ht2]; · iexact Ht2
    isplitl [Ht3]; · iexact Ht3
    iexact Has
  isplitl [Hcr Har]
  · isplitl [Hcr]; · iexact Hcr
    iexact Har
  isplitl [Hcb0]; · iexact Hcb0
  isplitl [Hao]; · iexact Hao
  isplitl [Hx Hs2 Hv2]
  · isplitl [Hx]; · iexact Hx
    isplitl [Hs2]; · iexact Hs2
    iexact Hv2
  isplitl [Hxl Hs3 Hv3]
  · isplitl [Hxl]; · iexact Hxl
    isplitl [Hs3]; · iexact Hs3
    iexact Hv3
  isplitl [Hw Hs4 Hv1]
  · isplitl [Hw]; · iexact Hw
    isplitl [Hs4]; · iexact Hs4
    iexact Hv1
  isplitl [Hs5]; · iexact Hs5
  isplitl [Hs6]; · iexact Hs6
  isplitl [Ho]; · iexact Ho
  iexact Hv4

end Cert.KernelIdeal.A2A

end
-- ==== Proof.KernelIdeal.Leave.lean ====
/-
# Leaving the kernel

From the state with everything done, the protocol's cells are closed, the scratch buffers are whole again, the
arguments are as they were and the result array holds the device's rows of the result (`leave`).
-/
module

public import proofs.«01_k».proof.Proof.KernelIdeal.Enter

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Leave
variable (c : Dev nD)

/-- All done. -/
abbrev z₁ : Cnt := ⟨3, 1, 24, 24, 2, 8, 8, 24, 24, 24, 1, 24, 8, 64, 8, 8⟩

theorem e_ow : (Comp m c z₁ .ow : sProp 𝕄) = iprop(∃ W, owes (c : Thread nD τ) 0 W) := by
  show iprop(∃ W, owes (c : Thread nD τ) (owS c 0 + owB c 0) W) = _
  unfold owS owB; rw [add_zero]
theorem e_bar : (Comp m c z₁ .bar : sProp 𝕄) = atPos ER (barCell c) 1 ∅ 0 := rfl
theorem e_snd : (Comp m c z₁ .snd : sProp 𝕄) = iprop((bigSep Finset.univ fun i : Fin 24 => own c (sP (bOf i.val) (qOf i.val)) (svi m c i.val))
    ∗ bigSep Finset.univ fun i : Fin 24 => atPos ER (sendCell c (bOf i.val) (qOf i.val)) 1 ∅ 0) := by
  rw [← bigSep_sep']
  exact bigSep_congr fun i _ => congrArg (sndΦ m c i) (if_pos i.isLt)
theorem e_rcv : (Comp m c z₁ .rcv : sProp 𝕄) = iprop((bigSep Finset.univ fun r : Fin 24 => own c (cP (src c (rj r.val).succ) (rq r.val)) (cv m c (rj r.val).succ (rq r.val)))
    ∗ bigSep Finset.univ fun r : Fin 24 => atPos ER (recvCell c (src c (rj r.val).succ) (rq r.val)) 1 ∅ 0) := by
  rw [← bigSep_sep']
  exact bigSep_congr fun i _ => congrArg (rcvΦ m c i) (decide_eq_true i.isLt)
theorem e_ownb : (Comp m c z₁ .ownb : sProp 𝕄) = bigSep Finset.univ fun q : Fin 8 => own c (cP (src c 0) q) (cv m c 0 q) := rfl
theorem e_ownr : (Comp m c z₁ .ownr : sProp 𝕄) = bigSep Finset.univ fun q : Fin 8 => atPos ER (recvCell c c q) 0 ∅ 0 := rfl

theorem stg_end : ∀ (p n : ℕ) (i : ℕ), i < p → p ≤ n → ∃ k, stg p i n n = .done k := fun p n i hi hn => by
  unfold stg
  rw [if_neg (by omega), if_pos (by have := Nat.mul_div_le (n - 1 - i) p; omega)]
  exact ⟨_, rfl⟩

theorem e_xst : (Comp m c z₁ .xst : sProp 𝕄) ⊢ iprop((bigSep Finset.univ fun s : Fin 2 => xPts m c (shx s)) ∗ (bigSep Finset.univ fun s : Fin 2 => ownAny F c (xsP s))
    ∗ bigSep Finset.univ fun s : Fin 2 => semVal (cell c (.dma (xS s))) 0) := by
  rw [← bigSep_sep', ← bigSep_sep']
  refine bigSep_mono fun i _ => ?_
  obtain ⟨k, hk⟩ := stg_end 2 24 i.val i.isLt (by decide)
  show xΦ m c i (stg 2 i.val 24 24) ⊢ _
  rw [hk]; simp only [xΦ]
  exact sep_mono_right (sep_mono_left (own_any c _ _))
theorem e_xl : (Comp m c z₁ .xl : sProp 𝕄) ⊢ iprop(xPts m c shl ∗ ownAny F c xlM ∗ semVal (cell c (.dma xlS)) 0) := by
  obtain ⟨k, hk⟩ := stg_end 1 1 0 (by decide) (by decide)
  show xlΦ m c (stg 1 0 1 1) ⊢ _
  rw [hk]; simp only [xlΦ]
  exact sep_mono_right (sep_mono_left (own_any c _ _))
theorem e_wst : (Comp m c z₁ .wst : sProp 𝕄) ⊢ iprop((bigSep Finset.univ fun s : Fin 2 => wPts m c (shw s)) ∗ (bigSep Finset.univ fun s : Fin 2 => ownAny F c (wbP s))
    ∗ bigSep Finset.univ fun s : Fin 2 => semVal (cell c (.dma (wS s))) 0) := by
  rw [← bigSep_sep', ← bigSep_sep']
  refine bigSep_mono fun i _ => ?_
  obtain ⟨k, hk⟩ := stg_end 2 8 i.val i.isLt (by decide)
  show wΦ m c i (stg 2 i.val 8 8) ⊢ _
  rw [hk]; simp only [wΦ]
  exact sep_mono_right (sep_mono_left (own_any c _ _))
theorem e_wf : (Comp m c z₁ .wf : sProp 𝕄) ⊢ bigSep Finset.univ fun i : Fin 8 => ownAny F c (wfP i) :=
  bigSep_mono fun i _ => by
    show wfΦ m c i (decide (i.val < 8)) ⊢ _
    rw [decide_eq_true i.isLt]; exact own_any c _ _
theorem e_out : (Comp m c z₁ .out : sProp 𝕄) ⊢ iprop((bigSep Finset.univ fun q : Fin 8 => ownAny F c (awP q)) ∗ (bigSep Finset.univ fun q : Fin 8 => own c (oP q) (ov m c q))
    ∗ bigSep Finset.univ fun q : Fin 8 => semVal (cell c (.dma (oS q))) 0) := by
  rw [← bigSep_sep', ← bigSep_sep']
  refine bigSep_mono fun i _ => ?_
  obtain ⟨k, hk⟩ := stg_end 8 8 i.val i.isLt (by decide)
  show outΦ m c i (stg 8 i.val 8 8) ⊢ _
  rw [hk]; simp only [outΦ]
  exact .rfl

/-! ## The cells closed -/

/-- A position from which nothing more is due. -/
def shut (k : KI) : sProp 𝕄 := iprop(∃ R, ⌜∀ r, R ≤ r → (xRd (F := F) m).duties (kcell (c, k)) r = ∅⌝ ∗ atPos ER (kcell (c, k)) R ∅ 0)

theorem shut_one (k : KI) : (atPos ER (kcell (c, k)) 1 ∅ 0 : sProp 𝕄) ⊢ shut m c k := by
  unfold shut; iintro H; iexists 1
  isplitr; · (ipureintro; exact duties_later m _)
  iexact H
theorem shut_self (q : Fin 8) : (atPos ER (recvCell c c q) 0 ∅ 0 : sProp 𝕄) ⊢ shut m c (kRecv c q) := by
  unfold shut; iintro H; iexists 0
  isplitr; · (ipureintro; exact duties_recv_self m c q)
  iexact H

theorem close_one (K : Dev nD × KI → ℕ) (k : KI) : iprop(records m K ∗ shut m c k) ⊢ (|={Set.univ}=> semVal (kcell (c, k)) 0 : sProp 𝕄) := by
  unfold shut
  iintro ⟨#HR, ⟨%R, %hR, Hat⟩⟩
  iapply (cell_close ER (xRd m) (Set.mem_univ (K (c, k))) (fun h => h) (R := R) hR)
  isplitr
  · iapply (rec_inv m K (c, k)); iexact HR
  · iexact Hat

theorem close_all (K : Dev nD × KI → ℕ) : iprop(records m K ∗ bigSep Finset.univ fun k => shut m c k)
    ⊢ (|={Set.univ}=> bigSep Finset.univ fun k : KI => semVal (kcell (c, k)) 0 : sProp 𝕄) :=
  (with_persistent (R := records m K) fun k _ => close_one m c K k).trans (bigSep_fupd _ _)

/-! ## The exit -/

/-- The block buffer, its pieces together again. -/
theorem blocks_leave : iprop((bigSep Finset.univ fun q : Fin 8 => own c (cP (src c 0) q) (cv m c 0 q))
      ∗ bigSep Finset.univ fun r : Fin 24 => own c (cP (src c (rj r.val).succ) (rq r.val)) (cv m c (rj r.val).succ (rq r.val)))
    ⊢ (ownAny F c cM : sProp 𝕄) := by
  refine (sep_mono (bigSep_mono (Ψ := fun q : Fin 8 => ownAny F c (cP (src c 0) q)) fun q _ => own_any c _ _)
    (bigSep_mono (Ψ := fun r : Fin 24 => ownAny F c (cP (src c (rj r.val).succ) (rq r.val))) fun r _ => own_any c _ _)).trans ?_
  refine (Entails.of_eq (over_dq c fun d q => ownAny F c (cP d q)).symm).trans ?_
  exact (bigSep_mono fun d _ => parts_join_any c cM (cR d) (fun _ _ => rfl) (cp_disj _) (cbR d) (fun _ => rfl) (cp_cov _)
    (fun q => (cqR q).emb) (cp_em _)).trans (whole_join_any c cM cbR (fun _ _ => rfl) cb_disj cb_cov)

/-- The send buffer, its pieces together again. -/
theorem sends_leave : (bigSep Finset.univ fun i : Fin 24 => own c (sP (bOf i.val) (qOf i.val)) (svi m c i.val)) ⊢ (ownAny F c sM : sProp 𝕄) :=
  (bigSep_mono (Ψ := fun i : Fin 24 => ownAny F c (sP (bOf i.val) (qOf i.val))) fun _ _ => own_any c _ _).trans
    (whole_join_any c sM (fun i : Fin 24 => sR (bOf i.val) (qOf i.val)) (fun _ _ => rfl) sp_disj sp_cov)

/-- The result, its pieces together. -/
theorem out_leave : (bigSep Finset.univ fun q : Fin 8 => own c (oP q) (ov m c q)) ⊢ (oLoc c ↦{fullShare} (outv m c : Buf (Elt F) (oLoc c)) : sProp 𝕄) := by
  refine (owns_of_rects (c : Thread nD τ) oM fullShare oR (fun _ _ => rfl) o_disj o_cov (outv m c)).trans ?_
  refine (Entails.of_eq (own_whole (F := F) c main_v1 (outv m c))).trans ?_
  iintro ⟨%f, %hf, H⟩
  subst hf
  iexact H

/-- What device `c` ends with besides its scratch buffers and semaphores: the arguments as they were, the result. -/
def fin (c : Dev nD) : sProp 𝕄 := iprop(unscopedSems0 c ∗ xPts m c fullShare ∗ wPts m c fullShare ∗ (oLoc c ↦{fullShare} (outv m c : Buf (Elt F) (oLoc c))))

theorem leave (K : Dev nD × KI → ℕ) : St m K c z₁
    ⊢ (|={Set.univ}=> iprop((∃ W, owes (c : Thread nD τ) 0 W) ∗ fin m c ∗ Pipeline.ownSems0 osem c ∗ Pipeline.scopedRest cfg0.spec c) : sProp 𝕄) := by
  unfold St
  rw [over_ct, e_ow, e_bar, e_snd, e_rcv, e_ownb, e_ownr]
  iintro ⟨#HR, Hd, -, Hab, -, ⟨Hs1, Has⟩, ⟨Hc1, Har⟩, Hc0, Hao, Hxs, Hxl, Hws, Hwf, -, Hout⟩
  ihave Hxs := (e_xst m c) $$ Hxs
  icases Hxs with ⟨Hx, Hs2, Hv2⟩
  ihave Hxl := (e_xl m c) $$ Hxl
  icases Hxl with ⟨Hxl, Hs3, Hv3⟩
  ihave Hws := (e_wst m c) $$ Hws
  icases Hws with ⟨Hw, Hs4, Hv1⟩
  ihave Hs5 := (e_wf m c) $$ Hwf
  ihave Hout := (e_out m c) $$ Hout
  icases Hout with ⟨Hs6, Ho, Hv4⟩
  imod (close_all m c K) $$ [Hab Has Hao Har] with Hcells
  · isplitr; · iexact HR
    rw [over_ki c]
    isplitl [Hab]; · iapply (shut_one m c none); iexact Hab
    isplitl [Has]
    · iapply (show (bigSep Finset.univ fun i : Fin 24 => atPos ER (sendCell c (bOf i.val) (qOf i.val)) 1 ∅ 0 : sProp 𝕄) ⊢ bigSep Finset.univ fun i : Fin 24 => shut m c (kSend i.val)
        from bigSep_mono fun i _ => shut_one m c (kSend i.val))
      iexact Has
    isplitl [Hao]
    · iapply (show (bigSep Finset.univ fun q : Fin 8 => atPos ER (recvCell c c q) 0 ∅ 0 : sProp 𝕄) ⊢ bigSep Finset.univ fun q : Fin 8 => shut m c (kRecv c q)
        from bigSep_mono fun q _ => shut_self m c q)
      iexact Hao
    · iapply (show (bigSep Finset.univ fun r : Fin 24 => atPos ER (recvCell c (src c (rj r.val).succ) (rq r.val)) 1 ∅ 0 : sProp 𝕄)
          ⊢ bigSep Finset.univ fun r : Fin 24 => shut m c (kRecv (src c (rj r.val).succ) (rq r.val))
        from bigSep_mono fun r _ => shut_one m c (kRecv (src c (rj r.val).succ) (rq r.val)))
      iexact Har
  imodintro
  ihave Hsems := (Entails.of_eq (sems_eq (F := F) c).symm) $$ [Hcells Hv1 Hv2 Hv3 Hv4]
  · unfold exSems
    isplitl [Hcells]; · iexact Hcells
    isplitl [Hv1]; · iexact Hv1
    isplitl [Hv2]; · iexact Hv2
    isplitl [Hv3]; · iexact Hv3
    iexact Hv4
  icases Hsems with ⟨Hos, Hus⟩
  isplitl [Hd]; · iexact Hd
  isplitl [Hus Hx Hxl Hw Ho]
  · unfold fin
    isplitl [Hus]; · iexact Hus
    isplitl [Hx Hxl]
    · iapply (x_shares m c).2
      isplitl [Hx]; · iexact Hx
      iexact Hxl
    isplitl [Hw]; · iapply (w_shares m c).2; iexact Hw
    iapply (out_leave m c); iexact Ho
  isplitl [Hos]; · iexact Hos
  rw [scopedRest0_eq]
  isplitl [Hc0 Hc1]
  · iapply ((blocks_leave m c).trans (pts_of_own (F := F) c cc0_scratch0))
    isplitl [Hc0]; · iexact Hc0
    iexact Hc1
  isplitl [Hs1]
  · iapply ((sends_leave m c).trans (pts_of_own (F := F) c cc0_scratch1)); iexact Hs1
  isplitl [Hs2]
  · iapply ((whole_join_any c xsM xsR (fun _ _ => rfl) xs_disj xs_cov).trans (pts_of_own (F := F) c cc0_scratch2)); iexact Hs2
  isplitl [Hs3]
  · iapply (pts_of_own (F := F) c cc0_scratch3); iexact Hs3
  isplitl [Hs4]
  · iapply ((whole_join_any c wbM wbR (fun _ _ => rfl) wb_disj wb_cov).trans (pts_of_own (F := F) c cc0_scratch4)); iexact Hs4
  isplitl [Hs5]
  · iapply ((whole_join_any c wfM wfR (fun _ _ => rfl) wf_disj wf_cov).trans (pts_of_own (F := F) c cc0_scratch5)); iexact Hs5
  · iapply ((whole_join_any c aM oR (fun _ _ => rfl) o_disj o_cov).trans (pts_of_own (F := F) c cc0_scratch6)); iexact Hs6

end Leave

end Cert.KernelIdeal.A2A

end
-- ==== Proof.KernelIdeal.Steps.lean ====
/-
# One rule per kind of step of the kernel

Every rule reads: if the state after the step proves the rest of the program, the state before it proves the
program that starts with the step. The rules are stated at a symbolic device, at symbolic counters and at any
rectangle whose offset is the one the counters name, so each is proved once for all occurrences of its step.
-/
module

public import proofs.«01_k».proof.Proof.KernelIdeal.State

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m} {K : Dev nD × KI → ℕ} {α : Type} {Q : α → sProp (MT nD τ sig Unit (Elt F) ℕ UU ℕ)} {c : Dev nD}
  {k : PUnit → Prog (TpuEff nD τ sig (Elt F) Λ₀ .tc) α}
  {ns bw xn xw xl wn ww n1 n2 n3 cm rv wb t s d : ℕ}

/-! ## Staging `x` -/

theorem p2 : (2 : ℕ) = 1 ∨ (2 : ℕ) = 2 ∨ (2 : ℕ) = 8 := .inr (.inl rfl)
theorem p8 : (8 : ℕ) = 1 ∨ (8 : ℕ) = 2 ∨ (8 : ℕ) = 8 := .inr (.inr rfl)
abbrev s2 (i : ℕ) : Fin 2 := ⟨i % 2, Nat.mod_lt _ (by decide)⟩

/-- A slot not in use has its share of `x`, the slot at some contents and the semaphore at zero. -/
theorem xΦ_ready (i : Fin 2) (st : SS) (h : st = .fresh ∨ ∃ j, st = .done j) :
    (xΦ m c i st : sProp 𝕄) ⊢ iprop(xPts m c (shx i) ∗ ownAny F c (xsP i) ∗ semVal (cell c (.dma (xS i))) 0) := by
  rcases h with rfl | ⟨j, rfl⟩
  · unfold xΦ; exact BI.Entails.refl _
  · dsimp only [xΦ]
    iintro ⟨H1, H2, H3⟩
    isplitl [H1]; · iexact H1
    isplitl [H2]
    · iapply (own_any c (xsP i) _) $$ H2
    iexact H3

theorem st_startx {offs off : Fin _ → ℕ} {inbs inb} {hs hd sem hsrc hdst hsem}
    (hw : xw ≤ xn) (hw' : xn < xw + 2)
    (hoffs : offs = ![1024 * (tgt c (bOf xn)).val + 128 * (qOf xn).val, 0]) (hoff : off = ![xn % 2, 0, 0]) (hse : sem = xS (s2 xn))
    (hn : St m K c ⟨ns, bw, xn + 1, xw, xl, wn, ww, n1, n2, n3, cm, rv, wb, t, s, d⟩ ⊢ WP c (k ⟨⟩) Q) :
    St m K c ⟨ns, bw, xn, xw, xl, wn, ww, n1, n2, n3, cm, rv, wb, t, s, d⟩ ⊢
      WP c (.op (.enqueueDma (xM.slice (Rect.unit (s := S4096x1024) offs S128x1024.size inbs) hs)
        (.here ((xsM.slice (Rect.unit (s := S2x128x1024) off S1x128x1024.size inb) hd).squeeze S128x1024 squeezes_S1x128x1024_S128x1024))
        (.dma sem) hsrc hdst hsem) k) Q := by
  subst hoffs hoff hse
  refine via1 .xst (by intro i hi; cases i <;> first | rfl | exact absurd rfl hi) ?_ hn
  refine fam (xΦ m c) (s2 xn) _ _ (fun i hi => stg_start_other p2 i.isLt fun h => hi (Fin.ext h)) ?_
  rw [show stg 2 (s2 xn).val (xn + 1) xw = _ from stg_started p2 hw]
  iintro ⟨-, H⟩ Hk
  ihave H' := (xΦ_ready (m := m) (c := c) (s2 xn) _ (stg_ready p2 hw')) $$ H
  icases H' with ⟨H1, ⟨%Y, H2⟩, H3⟩
  ihave H2 := (Entails.of_eq (own_squeeze c (xsP (s2 xn)) squeezes_S1x128x1024_S128x1024 Y).symm) $$ H2
  iapply (wp_start_own c (q := shx (s2 xn)) (S₀ := Finset.univ) (fs := xs m c) (X := fun j => xs m c ((xR (tgt c (bOf xn)) (qOf xn)).emb j)) Nx rfl
    (View.dmaCredit_pos _ (by decide)) (Finset.subset_univ _) rfl) $$ [H1 H2 H3]
  · isplitl [H1]; · iexact H1
    isplitl [H2]; · iexact H2
    iexact H3
  iexact Hk

theorem mayW (sm : SemLoc sig) (h : lv (cell c sm) () ≤ 1) : (records m K : sProp 𝕄) ⊢ MayWait (c : Thread nD τ) sm () (owS c (24 - n2) + owB c (3 - 3)) :=
  (rec_lev m K).trans (by
    show _ ⊢ MayWait (c : Thread nD τ) sm () (owS c (24 - n2) + 0)
    rw [add_zero]; exact mayWait_owS c sm _ h)

theorem st_waitx {sp : Space} {sh : Shape} {e : EltTy} {srcw : Memref sig .tc sp sh e} {off : Fin _ → ℕ} {inb} {hd sem hsrc hdst}
    (h₁ : xw < xn) (h₂ : xn ≤ xw + 2) (hse : sem = xS (s2 xw))
    (hn : St m K c ⟨3, bw, xn, xw + 1, xl, wn, ww, n1, n2, n3, cm, rv, wb, t, s, d⟩ ⊢ WP c (k ⟨⟩) Q) :
    St m K c ⟨3, bw, xn, xw, xl, wn, ww, n1, n2, n3, cm, rv, wb, t, s, d⟩ ⊢
      WP c (.op (.waitDma2 sem srcw ((xsM.slice (Rect.unit (s := S2x128x1024) off S1x128x1024.size inb) hd).squeeze S128x1024 squeezes_S1x128x1024_S128x1024)
        hsrc hdst) k) Q := by
  subst hse
  refine via2 .ow .xst (by decide) (by intro i hi hi'; cases i <;> first | rfl | exact absurd rfl hi | exact absurd rfl hi') ?_ hn
  refine fam' (xΦ m c) (s2 xw) _ _ (fun i hi => stg_wait_other p2 h₁ h₂ i.isLt fun h => hi (Fin.ext h)) ?_
  rw [show stg 2 (s2 xw).val xn xw = _ from stg_flying p2 h₁ h₂, show stg 2 (s2 xw).val xn (xw + 1) = _ from stg_done p2 (Nat.lt_succ_self _) h₁ h₂]
  dsimp only [xΦ, Comp]
  iintro ⟨⟨#HR, HO⟩, H⟩ Hk
  iapply (wp_wait_own c (N := Nx) (dstw := sq1 (xsM.slice (Rect.unit (s := S2x128x1024) off S1x128x1024.size inb) hd)) rfl) $$ [HO H]
  · isplitl [H]; · iexact H
    isplitl [HO]; · iexact HO
    iapply (mayW _ ?_) $$ HR
    have : (s2 xw).val < 2 := (s2 xw).isLt
    dsimp only [lv]; rw [if_neg (by omega)]; decide
  iintro ⟨H1, H2, H3, HO⟩
  iapply Hk
  isplitl [HO]; · iexact HO
  isplitl [H2]; · iexact H2
  isplitl [H1]
  · iapply (Entails.of_eq (own_up c (xsP (s2 xw)) squeezes_S1x128x1024_S128x1024 _)) $$ H1
  iexact H3

theorem st_loadx {off : Fin _ → ℕ} {inb} {hl} {kl : (S1x128x1024.Idx → Elt F .f32) → Prog (TpuEff nD τ sig (Elt F) Λ₀ .tc) α}
    (h₁ : xw < xn) (h₂ : xn ≤ xw + 2) (hoff : off = ![xw % 2, 0, 0])
    (hn : St m K c ⟨ns, bw, xn, xw + 1, xl, wn, ww, n1, n2, n3, cm, rv, wb, t, s, d⟩ ⊢ WP c (kl (xvi m c xw)) Q) :
    St m K c ⟨ns, bw, xn, xw + 1, xl, wn, ww, n1, n2, n3, cm, rv, wb, t, s, d⟩ ⊢
      WP c (.op (.load xsM (Rect.unit (s := S2x128x1024) off S1x128x1024.size inb).toLoadRect hl) kl) Q := by
  subst hoff
  refine via0 .xst ?_ hn
  refine fam (xΦ m c) (s2 xw) _ _ (fun i hi => rfl) ?_
  rw [show stg 2 (s2 xw).val xn (xw + 1) = _ from stg_done p2 (Nat.lt_succ_self _) h₁ h₂]
  dsimp only [xΦ]
  iintro ⟨-, H1, H2, H3⟩ Hk
  iapply (wp_load_own c (m := xsM) (r := xsR (s2 xw)) (fun _ => rfl)) $$ H2
  iintro H2
  iapply Hk
  isplitl [H1]; · iexact H1
  isplitl [H2] <;> iassumption

/-! ## The own block -/

theorem st_startxl {offs : Fin _ → ℕ} {inbs} {hs sem hsrc hdst hsem} (hoffs : offs = ![1024 * c.val, 0]) (hse : sem = xlS)
    (hn : St m K c ⟨ns, bw, xn, xw, 1, wn, ww, n1, n2, n3, cm, rv, wb, t, s, d⟩ ⊢ WP c (k ⟨⟩) Q) :
    St m K c ⟨ns, bw, xn, xw, 0, wn, ww, n1, n2, n3, cm, rv, wb, t, s, d⟩ ⊢
      WP c (.op (.enqueueDma (xM.slice (Rect.unit (s := S4096x1024) offs S1024x1024.size inbs) hs) (.here xlM) (.dma sem) hsrc hdst hsem) k) Q := by
  subst hoffs hse
  refine via1 .xl (by intro i hi; cases i <;> first | rfl | exact absurd rfl hi) ?_ hn
  show iprop(records m K ∗ xlΦ m c .fresh) ⊢ iprop((xlΦ m c (.fly 0) -∗ WP c (k ⟨⟩) Q) -∗ _)
  dsimp only [xlΦ]
  iintro ⟨-, H1, ⟨%Y, H2⟩, H3⟩ Hk
  iapply (wp_start_own c (q := shl) (S₀ := Finset.univ) (fs := xs m c) (X := xlv m c) Nl rfl
    (View.dmaCredit_pos _ (by decide)) (Finset.subset_univ _) rfl) $$ [H1 H2 H3]
  · isplitl [H1]; · iexact H1
    isplitl [H2]; · iexact H2
    iexact H3
  iexact Hk

theorem st_waitxl {sp : Space} {sh : Shape} {e : EltTy} {srcw : Memref sig .tc sp sh e} {sem hsrc hdst} (hse : sem = xlS)
    (hn : St m K c ⟨3, bw, xn, xw, 2, wn, ww, n1, n2, n3, cm, rv, wb, t, s, d⟩ ⊢ WP c (k ⟨⟩) Q) :
    St m K c ⟨3, bw, xn, xw, 1, wn, ww, n1, n2, n3, cm, rv, wb, t, s, d⟩ ⊢ WP c (.op (.waitDma2 sem srcw xlM hsrc hdst) k) Q := by
  subst hse
  refine via2 .ow .xl (by decide) (by intro i hi hi'; cases i <;> first | rfl | exact absurd rfl hi | exact absurd rfl hi') ?_ hn
  show iprop((records m K ∗ _) ∗ xlΦ m c (stg 1 0 (min 1 1) (1 - 1))) ⊢ iprop((iprop(_ ∗ xlΦ m c (stg 1 0 (min 2 1) (2 - 1))) -∗ WP c (k ⟨⟩) Q) -∗ _)
  rw [show stg 1 0 (min 1 1) (1 - 1) = .fly 0 by simp [stg], show stg 1 0 (min 2 1) (2 - 1) = .done 0 by simp [stg]]
  dsimp only [xlΦ, Comp]
  iintro ⟨⟨#HR, HO⟩, H⟩ Hk
  iapply (wp_wait_own c (N := Nl) rfl) $$ [HO H]
  · isplitl [H]; · iexact H
    isplitl [HO]; · iexact HO
    iapply (mayW (c := c) _ (by show lv (cell (0 : Dev nD) (.dma xlS)) () ≤ 1; decide)) $$ HR
  iintro ⟨H1, H2, H3, HO⟩
  iapply Hk
  isplitl [HO]; · iexact HO
  isplitl [H2]; · iexact H2
  isplitl [H1] <;> iassumption

theorem st_loadxl {inb} {hl} {kl : (S1024x1024.Idx → Elt F .f32) → Prog (TpuEff nD τ sig (Elt F) Λ₀ .tc) α}
    (hn : St m K c ⟨ns, bw, xn, xw, 2, wn, ww, n1, n2, n3, cm, rv, wb, t, s, d⟩ ⊢ WP c (kl (xlv m c)) Q) :
    St m K c ⟨ns, bw, xn, xw, 2, wn, ww, n1, n2, n3, cm, rv, wb, t, s, d⟩ ⊢
      WP c (.op (.load xlM (Rect.unit (s := S1024x1024) ![0, 0] S1024x1024.size inb).toLoadRect hl) kl) Q := by
  refine via0 .xl ?_ hn
  show iprop(records m K ∗ xlΦ m c (stg 1 0 (min 2 1) (2 - 1))) ⊢ iprop((xlΦ m c (stg 1 0 (min 2 1) (2 - 1)) -∗ WP c (kl (xlv m c)) Q) -∗ _)
  rw [show stg 1 0 (min 2 1) (2 - 1) = .done 0 by simp [stg]]
  dsimp only [xlΦ]
  iintro ⟨-, H1, H2, H3⟩ Hk
  unfold own owns
  icases H2 with ⟨%f, %hf, H2⟩
  iapply (wp_load_rect 𝒱₀ (c : Thread nD τ) none Set.univ (m := xlM) (r := Rect.unit (s := S1024x1024) ![0, 0] S1024x1024.size inb) (f := f)
    (View.set_slice_subset _ _)) $$ H2
  iintro H2
  rw [show (xlM.access (Rect.unit (s := S1024x1024) ![0, 0] S1024x1024.size inb)).read (Elt F) f = xlv m c from
    (Memref.readAt_unit_zero (Elt F) cc0_scratch3 (funext fun a => by fin_cases a <;> rfl) _ f).trans hf]
  iapply Hk
  isplitl [H1]; · iexact H1
  isplitl [H2]
  · iexists f; isplitr; · ipureintro; exact hf
    iexact H2
  iexact H3

/-! ## Staging `w` -/

theorem wΦ_ready (i : Fin 2) (st : SS) (h : st = .fresh ∨ ∃ j, st = .done j) :
    (wΦ m c i st : sProp 𝕄) ⊢ iprop(wPts m c (shw i) ∗ ownAny F c (wbP i) ∗ semVal (cell c (.dma (wS i))) 0) := by
  rcases h with rfl | ⟨j, rfl⟩
  · unfold wΦ; exact BI.Entails.refl _
  · dsimp only [wΦ]
    iintro ⟨H1, H2, H3⟩
    isplitl [H1]; · iexact H1
    isplitl [H2]
    · iapply (own_any c (wbP i) _) $$ H2
    iexact H3

theorem st_startw {offs off : Fin _ → ℕ} {inbs inb} {hs hd sem hsrc hdst hsem}
    (hw : ww ≤ wn) (hw' : wn < ww + 2)
    (hoffs : offs = ![1024 * (src c (wj wn)).val, 1024 * (wh wn).val]) (hoff : off = ![wn % 2, 0, 0]) (hse : sem = wS (s2 wn))
    (hn : St m K c ⟨ns, bw, xn, xw, xl, wn + 1, ww, n1, n2, n3, cm, rv, wb, t, s, d⟩ ⊢ WP c (k ⟨⟩) Q) :
    St m K c ⟨ns, bw, xn, xw, xl, wn, ww, n1, n2, n3, cm, rv, wb, t, s, d⟩ ⊢
      WP c (.op (.enqueueDma (wM.slice (Rect.unit (s := S4096x2048) offs S1024x1024.size inbs) hs)
        (.here ((wbM.slice (Rect.unit (s := S2x1024x1024) off S1x1024x1024.size inb) hd).squeeze S1024x1024 squeezes_S1x1024x1024_S1024x1024))
        (.dma sem) hsrc hdst hsem) k) Q := by
  subst hoffs hoff hse
  refine via1 .wst (by intro i hi; cases i <;> first | rfl | exact absurd rfl hi) ?_ hn
  refine fam (wΦ m c) (s2 wn) _ _ (fun i hi => stg_start_other p2 i.isLt fun h => hi (Fin.ext h)) ?_
  rw [show stg 2 (s2 wn).val (wn + 1) ww = _ from stg_started p2 hw]
  iintro ⟨-, H⟩ Hk
  ihave H' := (wΦ_ready (m := m) (c := c) (s2 wn) _ (stg_ready p2 hw')) $$ H
  icases H' with ⟨H1, ⟨%Y, H2⟩, H3⟩
  ihave H2 := (Entails.of_eq (own_squeeze c (wbP (s2 wn)) squeezes_S1x1024x1024_S1024x1024 Y).symm) $$ H2
  iapply (wp_start_own c (q := shw (s2 wn)) (S₀ := Finset.univ) (fs := ws m c) (X := fun j => ws m c ((wR (src c (wj wn)) (wh wn)).emb j)) Nw rfl
    (View.dmaCredit_pos _ (by decide)) (Finset.subset_univ _) rfl) $$ [H1 H2 H3]
  · isplitl [H1]; · iexact H1
    isplitl [H2]; · iexact H2
    iexact H3
  iexact Hk

theorem st_waitw {sp : Space} {sh : Shape} {e : EltTy} {srcw : Memref sig .tc sp sh e} {off : Fin _ → ℕ} {inb} {hd sem hsrc hdst}
    (h₁ : ww < wn) (h₂ : wn ≤ ww + 2) (hse : sem = wS (s2 ww))
    (hn : St m K c ⟨3, bw, xn, xw, xl, wn, ww + 1, n1, n2, n3, cm, rv, wb, t, s, d⟩ ⊢ WP c (k ⟨⟩) Q) :
    St m K c ⟨3, bw, xn, xw, xl, wn, ww, n1, n2, n3, cm, rv, wb, t, s, d⟩ ⊢
      WP c (.op (.waitDma2 sem srcw ((wbM.slice (Rect.unit (s := S2x1024x1024) off S1x1024x1024.size inb) hd).squeeze S1024x1024 squeezes_S1x1024x1024_S1024x1024)
        hsrc hdst) k) Q := by
  subst hse
  refine via2 .ow .wst (by decide) (by intro i hi hi'; cases i <;> first | rfl | exact absurd rfl hi | exact absurd rfl hi') ?_ hn
  refine fam' (wΦ m c) (s2 ww) _ _ (fun i hi => stg_wait_other p2 h₁ h₂ i.isLt fun h => hi (Fin.ext h)) ?_
  rw [show stg 2 (s2 ww).val wn ww = _ from stg_flying p2 h₁ h₂, show stg 2 (s2 ww).val wn (ww + 1) = _ from stg_done p2 (Nat.lt_succ_self _) h₁ h₂]
  dsimp only [wΦ, Comp]
  iintro ⟨⟨#HR, HO⟩, H⟩ Hk
  iapply (wp_wait_own c (N := Nw) (dstw := sqB (wbM.slice (Rect.unit (s := S2x1024x1024) off S1x1024x1024.size inb) hd)) rfl) $$ [HO H]
  · isplitl [H]; · iexact H
    isplitl [HO]; · iexact HO
    iapply (mayW _ ?_) $$ HR
    have : (s2 ww).val < 2 := (s2 ww).isLt
    dsimp only [lv]; rw [if_neg (by omega)]; decide
  iintro ⟨H1, H2, H3, HO⟩
  iapply Hk
  isplitl [HO]; · iexact HO
  isplitl [H2]; · iexact H2
  isplitl [H1]
  · iapply (Entails.of_eq (own_upB c (wbP (s2 ww)) squeezes_S1x1024x1024_S1024x1024 _)) $$ H1
  iexact H3

theorem st_loadw {off : Fin _ → ℕ} {inb} {hl} {kl : (S1x1024x1024.Idx → Elt F .f32) → Prog (TpuEff nD τ sig (Elt F) Λ₀ .tc) α}
    (h₁ : ww < wn) (h₂ : wn ≤ ww + 2) (hoff : off = ![ww % 2, 0, 0])
    (hn : St m K c ⟨ns, bw, xn, xw, xl, wn, ww + 1, n1, n2, n3, cm, rv, wb, t, s, d⟩ ⊢ WP c (kl (wv m c (wj ww) (wh ww))) Q) :
    St m K c ⟨ns, bw, xn, xw, xl, wn, ww + 1, n1, n2, n3, cm, rv, wb, t, s, d⟩ ⊢
      WP c (.op (.load wbM (Rect.unit (s := S2x1024x1024) off S1x1024x1024.size inb).toLoadRect hl) kl) Q := by
  subst hoff
  refine via0 .wst ?_ hn
  refine fam (wΦ m c) (s2 ww) _ _ (fun i hi => rfl) ?_
  rw [show stg 2 (s2 ww).val wn (ww + 1) = _ from stg_done p2 (Nat.lt_succ_self _) h₁ h₂]
  dsimp only [wΦ]
  iintro ⟨-, H1, H2, H3⟩ Hk
  iapply (wp_load_own c (m := wbM) (r := wbR (s2 ww)) (fun _ => rfl)) $$ H2
  iintro H2
  iapply Hk
  isplitl [H1]; · iexact H1
  isplitl [H2] <;> iassumption

/-! ## The factors -/

/-- A read whose value the rest of the program does not depend on. -/
theorem load_any {cs : CoreSpace} {s : Shape} {e : EltTy} {M : Memref sig .tc cs s e} {r : Rect s} (hr : ∀ a, r.stride a = 1)
    {hl : M.view.LoadsAt r.toLoadRect} {kl : (r.shape.Idx → Elt F e) → Prog (TpuEff nD τ sig (Elt F) Λ₀ .tc) α} {R : sProp 𝕄} :
    iprop(R ∗ ownAny F c (M.slice r hr)) ⊢ iprop((ownAny F c (M.slice r hr) -∗ iprop(∀ v, WP c (kl v) Q)) -∗ WP c (.op (.load M r.toLoadRect hl) kl) Q) := by
  iintro ⟨-, ⟨%X, H⟩⟩ Hk
  iapply (wp_load_own c (m := M) (r := r) hr) $$ H
  iintro H
  ihave Hv := Hk $$ [H]
  · iexists X; iexact H
  iapply Hv $$ %X

theorem st_deadwf {off : Fin _ → ℕ} {inb} {hl} {kl : (S1x1024x1024.Idx → Elt F .bf16) → Prog (TpuEff nD τ sig (Elt F) Λ₀ .tc) α}
    (h : wb < 8) (hoff : off = ![wb, 0, 0])
    (hn : ∀ v, St m K c ⟨ns, bw, xn, xw, xl, wn, ww, n1, n2, n3, cm, rv, wb, t, s, d⟩ ⊢ WP c (kl v) Q) :
    St m K c ⟨ns, bw, xn, xw, xl, wn, ww, n1, n2, n3, cm, rv, wb, t, s, d⟩ ⊢
      WP c (.op (.load wfM (Rect.unit (s := S8x1024x1024) off S1x1024x1024.size inb).toLoadRect hl) kl) Q := by
  subst hoff
  refine via0 (B := iprop(∀ v, WP c (kl v) Q)) .wf ?_ (forall_intro hn)
  refine fam (wfΦ m c) ⟨wb, h⟩ _ _ (fun i hi => rfl) ?_
  rw [show decide ((⟨wb, h⟩ : Fin 8).val < wb) = false from decide_eq_false (Nat.lt_irrefl _)]
  exact load_any (M := wfM) (r := wfR ⟨wb, h⟩) (fun _ => rfl)

theorem st_storewf {off : Fin _ → ℕ} {inb} {w hx hm} (h : wb < 8) (hoff : off = ![wb, 0, 0]) (hw : w = wf m c (wj wb) (wh wb))
    (hn : St m K c ⟨ns, bw, xn, xw, xl, wn, ww, n1, n2, n3, cm, rv, wb + 1, t, s, d⟩ ⊢ WP c (k ⟨⟩) Q) :
    St m K c ⟨ns, bw, xn, xw, xl, wn, ww, n1, n2, n3, cm, rv, wb, t, s, d⟩ ⊢
      WP c (.op (.store wfM (Rect.unit (s := S8x1024x1024) off S1x1024x1024.size inb) w Finset.univ hx hm) k) Q := by
  subst hoff hw
  refine via1 .wf (by intro i hi; cases i <;> first | rfl | exact absurd rfl hi) ?_ hn
  refine fam (wfΦ m c) ⟨wb, h⟩ _ _ (fun i hi => by
    have : i.val ≠ wb := fun h => hi (Fin.ext h)
    exact decide_eq_decide.mpr (by show i.val < wb + 1 ↔ i.val < wb; omega)) ?_
  rw [show decide ((⟨wb, h⟩ : Fin 8).val < wb) = false from decide_eq_false (Nat.lt_irrefl _),
    show decide ((⟨wb, h⟩ : Fin 8).val < wb + 1) = true from decide_eq_true (Nat.lt_succ_self _)]
  dsimp only [wfΦ]
  iintro ⟨-, ⟨%Y, H⟩⟩ Hk
  iapply (wp_store_own c (m := wfM) (r := wfR ⟨wb, h⟩) (fun _ => rfl)) $$ H
  iexact Hk

theorem tjh_wj (t : ℕ) : wj (2 * (tj t).val + (th t).val) = tj t := Fin.ext (by
  have h₁ := (tj t).isLt; have h₂ := (th t).isLt
  show (2 * (tj t).val + (th t).val) / 2 % 4 = (tj t).val; omega)
theorem tjh_wh (t : ℕ) : wh (2 * (tj t).val + (th t).val) = th t := Fin.ext (by
  have h₁ := (tj t).isLt; have h₂ := (th t).isLt
  show (2 * (tj t).val + (th t).val) % 2 = (th t).val; omega)

theorem st_loadwf {off : Fin _ → ℕ} {inb} {hl} {kl : (S1x1024x1024.Idx → Elt F .bf16) → Prog (TpuEff nD τ sig (Elt F) Λ₀ .tc) α}
    (h : 2 * (tj t).val + (th t).val < wb) (hoff : off = ![2 * (tj t).val + (th t).val, 0, 0])
    (hn : St m K c ⟨ns, bw, xn, xw, xl, wn, ww, n1, n2, n3, cm, rv, wb, t, s, d⟩ ⊢ WP c (kl (wf m c (tj t) (th t))) Q) :
    St m K c ⟨ns, bw, xn, xw, xl, wn, ww, n1, n2, n3, cm, rv, wb, t, s, d⟩ ⊢
      WP c (.op (.load wfM (Rect.unit (s := S8x1024x1024) off S1x1024x1024.size inb).toLoadRect hl) kl) Q := by
  subst hoff
  refine via0 .wf ?_ hn
  have hlt : 2 * (tj t).val + (th t).val < 8 := by have h₁ := (tj t).isLt; have h₂ := (th t).isLt; omega
  refine fam (wfΦ m c) ⟨2 * (tj t).val + (th t).val, hlt⟩ _ _ (fun i hi => rfl) ?_
  rw [show decide ((⟨2 * (tj t).val + (th t).val, hlt⟩ : Fin 8).val < wb) = true from decide_eq_true h]
  dsimp only [wfΦ]
  rw [tjh_wj, tjh_wh]
  iintro ⟨-, H⟩ Hk
  iapply (wp_load_own c (m := wfM) (r := wfR ⟨2 * (tj t).val + (th t).val, hlt⟩) (fun _ => rfl)) $$ H
  iexact Hk

/-! ## The send buffer -/

theorem st_deads {off : Fin _ → ℕ} {inb} {hl} {kl : (S1x128x1024.Idx → Elt F .bf16) → Prog (TpuEff nD τ sig (Elt F) Λ₀ .tc) α}
    (h : n1 < 24) (h₂ : n2 ≤ n1) (h₃ : n3 ≤ n2) (hoff : off = ![(bOf n1).val, 128 * (qOf n1).val, 0])
    (hn : ∀ v, St m K c ⟨ns, bw, xn, xw, xl, wn, ww, n1, n2, n3, cm, rv, wb, t, s, d⟩ ⊢ WP c (kl v) Q) :
    St m K c ⟨ns, bw, xn, xw, xl, wn, ww, n1, n2, n3, cm, rv, wb, t, s, d⟩ ⊢
      WP c (.op (.load sM (Rect.unit (s := S3x1024x1024) off S1x128x1024.size inb).toLoadRect hl) kl) Q := by
  subst hoff
  refine via0 (B := iprop(∀ v, WP c (kl v) Q)) .snd ?_ (forall_intro hn)
  refine fam (sndΦ m c) ⟨n1, h⟩ _ _ (fun i hi => rfl) ?_
  rw [show sndLev (⟨n1, h⟩ : Fin 24).val n1 n2 n3 = 0 by unfold sndLev; rw [if_neg (by show ¬ n1 < n3; omega), if_neg (by show ¬ n1 < n2; omega), if_neg (by show ¬ n1 < n1; omega)]]
  simp only [sndΦ]
  iintro ⟨-, H, H2⟩ Hk
  iapply (load_any (R := iprop(emp)) (M := sM) (r := sR (bOf n1) (qOf n1)) (fun _ => rfl)) $$ [H]
  · isplitr; · iempintro
    iexact H
  iintro H
  iapply Hk
  isplitl [H]; · iexact H
  iexact H2

theorem st_stores {off : Fin _ → ℕ} {inb} {w hx hm} (h : n1 < 24) (h₂ : n2 ≤ n1) (h₃ : n3 ≤ n2)
    (hoff : off = ![(bOf n1).val, 128 * (qOf n1).val, 0]) (hw : w = svi m c n1)
    (hn : St m K c ⟨ns, bw, xn, xw, xl, wn, ww, n1 + 1, n2, n3, cm, rv, wb, t, s, d⟩ ⊢ WP c (k ⟨⟩) Q) :
    St m K c ⟨ns, bw, xn, xw, xl, wn, ww, n1, n2, n3, cm, rv, wb, t, s, d⟩ ⊢
      WP c (.op (.store sM (Rect.unit (s := S3x1024x1024) off S1x128x1024.size inb) w Finset.univ hx hm) k) Q := by
  subst hoff hw
  refine via1 .snd (by intro i hi; cases i <;> first | rfl | exact absurd rfl hi) ?_ hn
  refine fam (sndΦ m c) ⟨n1, h⟩ _ _ (fun i hi => by
    have : i.val ≠ n1 := fun h => hi (Fin.ext h)
    show sndLev i.val (n1 + 1) n2 n3 = sndLev i.val n1 n2 n3
    unfold sndLev; repeat' split
    all_goals first | rfl | omega) ?_
  rw [show sndLev (⟨n1, h⟩ : Fin 24).val n1 n2 n3 = 0 by unfold sndLev; rw [if_neg (by show ¬ n1 < n3; omega), if_neg (by show ¬ n1 < n2; omega), if_neg (by show ¬ n1 < n1; omega)],
    show sndLev (⟨n1, h⟩ : Fin 24).val (n1 + 1) n2 n3 = 1 by unfold sndLev; rw [if_neg (by show ¬ n1 < n3; omega), if_neg (by show ¬ n1 < n2; omega), if_pos (by show n1 < n1 + 1; omega)]]
  simp only [sndΦ]
  iintro ⟨-, ⟨%Y, H⟩, H2⟩ Hk
  iapply (wp_store_own c (m := sM) (r := sR (bOf n1) (qOf n1)) (fun _ => rfl)) $$ H
  iintro H
  iapply Hk
  isplitl [H] <;> iassumption

end Cert.KernelIdeal.A2A

end
-- ==== Proof.KernelIdeal.Moves.lean ====
/-
# One step each: the exchange, the accumulator, the result

The step lemmas of the signals, the barrier, the sends and arrivals, the own block, the accumulator and the copies of the
result. As in the module before, each says: from the state, the operation reaches the rest of the program in the
state with one counter moved on.
-/
module

public import proofs.«01_k».proof.Proof.KernelIdeal.Steps
public import proofs.«01_k».proof.Proof.KernelIdeal.Split

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m} {K : Dev nD × KI → ℕ} {α : Type} {Q : α → sProp (MT nD τ sig Unit (Elt F) ℕ UU ℕ)} {c : Dev nD}
  {k : PUnit → Prog (TpuEff nD τ sig (Elt F) Λ₀ .tc) α} {ns bw xn xw xl wn ww n1 n2 n3 cm rv wb t s d : ℕ}

/-! ## The barrier -/

theorem st_signal {dst : Thread nD τ} {sem : Sem sig} {am : Int} (h : ns < 3)
    (hdst : dst = ((peer c ⟨ns, h⟩ : Dev nD) : Thread nD τ)) (hse : sem = barS) (ham : am = 1)
    (hn : St m K c ⟨ns + 1, bw, xn, xw, xl, wn, ww, n1, n2, n3, cm, rv, wb, t, s, d⟩ ⊢ WP c (k ⟨⟩) Q) :
    St m K c ⟨ns, bw, xn, xw, xl, wn, ww, n1, n2, n3, cm, rv, wb, t, s, d⟩ ⊢ WP c (.op (.semSignal dst sem am) k) Q := by
  subst hdst hse ham
  refine via2 .ow .sig (by decide) (by intro i hi hi'; cases i <;> first | rfl | exact absurd rfl hi | exact absurd rfl hi') ?_ hn
  refine fam' (sigΦ c) ⟨ns, h⟩ _ _ (fun i hi => by
    have : i.val ≠ ns := fun h => hi (Fin.ext h)
    exact decide_eq_decide.mpr (by show i.val < ns + 1 ↔ i.val < ns; omega)) ?_
  rw [show decide ((⟨ns, h⟩ : Fin 3).val < ns) = false from decide_eq_false (Nat.lt_irrefl _),
    show decide ((⟨ns, h⟩ : Fin 3).val < ns + 1) = true from decide_eq_true (Nat.lt_succ_self _)]
  dsimp only [sigΦ, Comp]
  iintro ⟨⟨#HR, ⟨%W, HO⟩⟩, Ht, Hp⟩ Hk
  ihave #HI := (rec_inv m K (peer c ⟨ns, h⟩, none)) $$ HR
  ihave #Hr := (rec_reached m K (peer c ⟨ns, h⟩, none)) $$ HR
  rw [kcell_none]
  have e : owB c (3 - ns) = owB c (3 - (ns + 1)) + tallyAt (barCell (peer c ⟨ns, h⟩)) () 1 := by
    rw [show 3 - ns = (3 - (ns + 1)) + 1 by omega]
    show owB c (3 - (ns + 1)) + tallyAt (barCell (peer c ⟨(2 - (3 - (ns + 1))) % 3, _⟩)) () 1 = _
    have e' : (⟨(2 - (3 - (ns + 1))) % 3, Nat.mod_lt _ (by decide)⟩ : Fin 3) = ⟨ns, h⟩ := Fin.ext (by show (2 - (3 - (ns + 1))) % 3 = ns; omega)
    rw [e']
  have eO : owS c (24 - n2) + owB c (3 - ns) = (owS c (24 - n2) + owB c (3 - (ns + 1))) + tallyAt (barCell (peer c ⟨ns, h⟩)) () 1 := by rw [e, add_assoc]
  iapply (Rounds.wp_signal 𝒱₀ ER (xRd m) (c : Thread nD τ) none (dst := (peer c ⟨ns, h⟩ : Thread nD τ)) (κ := K (peer c ⟨ns, h⟩, none)) (r := 0)
      (d := c) (by rw [duties_bar]; exact Finset.mem_erase.mpr ⟨(peer_ne c _).symm, Finset.mem_univ _⟩) (amount_bar m (peer c ⟨ns, h⟩) c) ()
      (owS c (24 - n2) + owB c (3 - (ns + 1))) eO) $$ [HO Ht Hp]
  · isplitr; · iexact HI
    isplitl [HO]; · iexact HO
    isplitl [Ht]; · iexact Ht
    isplitl [Hp]; · rw [payload_bar]; iexact Hp
    iexact Hr
  iintro HO
  iapply Hk
  isplitl [HO]; · iexists W; iexact HO
  iempintro

/-- The slots the three signals bring, send by send. -/
theorem slots : (bigSep (Finset.univ.erase c) fun d => barPay F c d : sProp 𝕄)
    ⊢ bigSep Finset.univ fun i : Fin 24 => ownAny F (tgt c (bOf i.val)) (cP c (qOf i.val)) := by
  have e₁ : (Finset.univ.erase c : Finset (Dev nD)) = Finset.univ.map ⟨tgt c, tgt_injective c⟩ := by revert c; decide
  have e₂ : (fun i : Fin 24 => ownAny F (tgt c (bOf i.val)) (cP c (qOf i.val)))
      = fun i : Fin 24 => (fun p : Fin 3 × Fin 8 => ownAny F (tgt c p.1) (cP c p.2)) ((finProdFinEquiv (m := 3) (n := 8)).symm i) := by
    funext i
    have h₁ : (finProdFinEquiv (m := 3) (n := 8)).symm i = (bOf i.val, qOf i.val) := by revert i; decide
    rw [h₁]
  have e₃ := bigSep_map (finProdFinEquiv (m := 3) (n := 8)).symm.toEmbedding (s := Finset.univ)
    (Φ := fun p : Fin 3 × Fin 8 => (ownAny F (tgt c p.1) (cP c p.2) : sProp 𝕄))
  rw [Finset.map_univ_equiv, bigSep_univ_prod (fun p : Fin 3 × Fin 8 => (ownAny F (tgt c p.1) (cP c p.2) : sProp 𝕄))] at e₃
  rw [e₁, bigSep_map, e₂]
  exact Entails.of_eq e₃

theorem st_barwait {sem : Sem sig} {am : Int} (hse : sem = barS) (ham : am = 3)
    (hn : St m K c ⟨3, 1, xn, xw, xl, wn, ww, n1, 0, n3, cm, rv, wb, t, s, d⟩ ⊢ WP c (k ⟨⟩) Q) :
    St m K c ⟨3, 0, xn, xw, xl, wn, ww, n1, 0, n3, cm, rv, wb, t, s, d⟩ ⊢ WP c (.op (.semWait sem am) k) Q := by
  subst hse ham
  refine via3 .ow .bar .dst (by decide) (by decide)
    (by intro i hi hi' hi''; cases i <;> first | rfl | exact absurd rfl hi | exact absurd rfl hi' | exact absurd rfl hi'') ?_ hn
  show iprop(records m K ∗ _ ∗ barΦ c false ∗ _) ⊢ iprop((iprop(_ ∗ barΦ c true ∗ _) -∗ _) -∗ _)
  dsimp only [barΦ, Comp]
  iintro ⟨#HR, ⟨%W, HO⟩, ⟨Hc, Ha⟩, Hd⟩ Hk
  ihave #HI := (rec_inv m K (c, none)) $$ HR
  rw [kcell_none]
  iapply (Rounds.wp_wait_rest_token 𝒱₀ ER (xRd m) (c : Thread nD τ) none (κ := K (c, none))
      (wpE_semWait_eq 𝒱₀ (c : Thread nD τ) none Set.univ) (Set.mem_univ _) () (O := owS c (24 - 0) + owB c (3 - 3)) (W := W) (R := 0) (m := 0) (T := ∅)
      (by rw [expect_bar])) $$ [HO Hc Ha]
  · isplitr; · iexact HI
    isplitl [Hc]; · iexact Hc
    isplitl [HO]; · iexact HO
    isplitr
    · iapply (mayW (c := c) _ (le_refl 1)) $$ HR
    iexact Ha
  iintro ⟨HO, Ha, -, Hp⟩
  ihave Hp := (Entails.of_eq (rest_bar m c)) $$ Hp
  iapply Hk
  isplitl [HO]; · iexists _; iexact HO
  isplitl [Ha]; · iexact Ha
  ihave Hs := (slots (F := F) (c := c)) $$ Hp
  have e : (bigSep Finset.univ fun i : Fin 24 => dstΦ (F := F) c i (decide (0 < 1 ∧ 0 ≤ i.val)))
      = bigSep Finset.univ fun i : Fin 24 => ownAny F (tgt c (bOf i.val)) (cP c (qOf i.val)) := bigSep_congr fun i _ => by
    rw [show decide (0 < 1 ∧ 0 ≤ i.val) = true from decide_eq_true ⟨Nat.one_pos, Nat.zero_le _⟩]; rfl
  iapply (Entails.of_eq e.symm) $$ Hs

/-! ## The own block -/

theorem st_deadown {off : Fin _ → ℕ} {inb} {hl} {kl : (S1x1024x1024.Idx → Elt F .bf16) → Prog (TpuEff nD τ sig (Elt F) Λ₀ .tc) α}
    (hoff : off = ![c.val, 0, 0])
    (hn : ∀ v, St m K c ⟨ns, bw, xn, xw, xl, wn, ww, n1, n2, n3, 0, rv, wb, t, s, d⟩ ⊢ WP c (kl v) Q) :
    St m K c ⟨ns, bw, xn, xw, xl, wn, ww, n1, n2, n3, 0, rv, wb, t, s, d⟩ ⊢
      WP c (.op (.load cM (Rect.unit (s := S4x1024x1024) off S1x1024x1024.size inb).toLoadRect hl) kl) Q := by
  subst hoff
  refine via0 (B := iprop(∀ v, WP c (kl v) Q)) .ownb ?_ (forall_intro hn)
  exact load_any (M := cM) (r := cbR c) (fun _ => rfl)

theorem st_storeown {off : Fin _ → ℕ} {inb} {w hx hm} (hoff : off = ![c.val, 0, 0]) (hw : w = lb m c)
    (hn : St m K c ⟨ns, bw, xn, xw, xl, wn, ww, n1, n2, n3, 1, rv, wb, t, s, d⟩ ⊢ WP c (k ⟨⟩) Q) :
    St m K c ⟨ns, bw, xn, xw, xl, wn, ww, n1, n2, n3, 0, rv, wb, t, s, d⟩ ⊢
      WP c (.op (.store cM (Rect.unit (s := S4x1024x1024) off S1x1024x1024.size inb) w Finset.univ hx hm) k) Q := by
  subst hoff hw
  refine via1 .ownb (by intro i hi; cases i <;> first | rfl | exact absurd rfl hi) ?_ hn
  show iprop(records m K ∗ ownbΦ m c false) ⊢ iprop((ownbΦ m c true -∗ _) -∗ _)
  dsimp only [ownbΦ]
  iintro ⟨-, ⟨%Y, H⟩⟩ Hk
  iapply (wp_store_own c (m := cM) (r := cbR c) (fun _ => rfl)) $$ H
  iintro H
  iapply Hk
  rw [src_zero]
  iapply (parts c cM (cR c) (fun _ _ => rfl) (cp_disj c) (cbR c) (fun _ => rfl) (cp_cov c) (fun q => (cqR q).emb) (cp_em c) (lb m c)) $$ H

/-! ## Sends -/

theorem st_send {n : Dev nD} {offs offd : Fin _ → ℕ} {inbs inbd} {hs hd} {hsc semS semR hsrc hdst hsem}
    (h : n2 < n1) (h₂ : n2 < 24) (h₃ : n3 ≤ n2) (hdev : n = tgt c (bOf n2)) (hoffs : offs = ![(bOf n2).val, 128 * (qOf n2).val, 0])
    (hoffd : offd = ![c.val, 128 * (qOf n2).val, 0]) (hseS : semS = .dma (sendS (bOf n2) (qOf n2))) (hseR : semR = .dma (recvS c (qOf n2)))
    (hn : St m K c ⟨3, 1, xn, xw, xl, wn, ww, n1, n2 + 1, n3, cm, rv, wb, t, s, d⟩ ⊢ WP c (k ⟨⟩) Q) :
    St m K c ⟨3, 1, xn, xw, xl, wn, ww, n1, n2, n3, cm, rv, wb, t, s, d⟩ ⊢
      WP c (.op (.enqueueDma ((sM.slice (Rect.unit (s := S3x1024x1024) offs S1x128x1024.size inbs) hs).squeeze S128x1024 squeezes_S1x128x1024_S128x1024)
        (.remote (Dev.tc n : Thread nD τ) ((cM.slice (Rect.unit (s := S4x1024x1024) offd S1x128x1024.size inbd) hd).squeeze S128x1024 squeezes_S1x128x1024_S128x1024 :
          Memref sig (Dev.tc n : Thread nD τ).2.kind .vmem S128x1024 .bf16) semS hsc)
        semR hsrc hdst hsem) k) Q := by
  subst hdev hoffs hoffd hseS hseR
  refine via3 .ow .dst .snd (by decide) (by decide)
    (by intro i hi hi' hi''; cases i <;> first | rfl | exact absurd rfl hi | exact absurd rfl hi' | exact absurd rfl hi'') ?_ hn
  dsimp only [Comp]
  iintro ⟨#HR, ⟨%W, HO⟩, Hd, Hs⟩ Hk
  ihave Hd' := (focus (dstΦ (F := F) c) ⟨n2, h₂⟩ _ (fun i : Fin 24 => decide (0 < 1 ∧ n2 + 1 ≤ i.val)) (fun i hi => by
    have : i.val ≠ n2 := fun h => hi (Fin.ext h)
    exact decide_eq_decide.mpr (by omega))) $$ Hd
  icases Hd' with ⟨Hd, Hdb⟩
  ihave Hs' := (focus (sndΦ m c) ⟨n2, h₂⟩ _ (fun i : Fin 24 => sndLev i.val n1 (n2 + 1) n3) (fun i hi => by
    have : i.val ≠ n2 := fun h => hi (Fin.ext h)
    show sndLev i.val n1 (n2 + 1) n3 = sndLev i.val n1 n2 n3
    unfold sndLev; repeat' split
    all_goals first | rfl | omega)) $$ Hs
  icases Hs' with ⟨Hs, Hsb⟩
  rw [show decide (0 < 1 ∧ n2 ≤ (⟨n2, h₂⟩ : Fin 24).val) = true from decide_eq_true ⟨Nat.one_pos, le_refl _⟩,
    show decide (0 < 1 ∧ n2 + 1 ≤ (⟨n2, h₂⟩ : Fin 24).val) = false from decide_eq_false fun h => absurd h.2 (by show ¬ n2 + 1 ≤ n2; omega),
    show sndLev (⟨n2, h₂⟩ : Fin 24).val n1 n2 n3 = 1 by unfold sndLev; rw [if_neg (by show ¬ n2 < n3; omega), if_neg (by show ¬ n2 < n2; omega), if_pos (by show n2 < n1; omega)],
    show sndLev (⟨n2, h₂⟩ : Fin 24).val n1 (n2 + 1) n3 = 2 by unfold sndLev; rw [if_neg (by show ¬ n2 < n3; omega), if_pos (by show n2 < n2 + 1; omega)]]
  simp only [dstΦ, sndΦ]
  icases Hd with ⟨%Y, Hd⟩
  icases Hs with ⟨Hs, Ht₁, Ht₂, Ha⟩
  ihave Hs := (Entails.of_eq (own_squeeze c (sP (bOf n2) (qOf n2)) squeezes_S1x128x1024_S128x1024 (svi m c n2)).symm) $$ Hs
  ihave Hd := (Entails.of_eq (own_squeeze (tgt c (bOf n2)) (cP c (qOf n2)) squeezes_S1x128x1024_S128x1024 Y).symm) $$ Hd
  unfold own owns
  icases Hs with ⟨%fs, %hfs, Hs⟩
  icases Hd with ⟨%fd, -, Hd⟩
  ihave #HI₁ := (rec_inv m K (c, kSend n2)) $$ HR
  ihave #Hr₁ := (rec_reached m K (c, kSend n2)) $$ HR
  ihave #HI₂ := (rec_inv m K (tgt c (bOf n2), kRecv c (qOf n2))) $$ HR
  ihave #Hr₂ := (rec_reached m K (tgt c (bOf n2), kRecv c (qOf n2))) $$ HR
  rw [kcell_send, kcell_recv]
  have hne : c ≠ tgt c (bOf n2) := (tgt_ne c _).symm
  have e : owS c (24 - n2) = owS c (24 - (n2 + 1)) + tallyAt (recvCell (tgt c (bOf n2)) c (qOf n2)) () N := by
    rw [show 24 - n2 = (24 - (n2 + 1)) + 1 by omega]
    show owS c (24 - (n2 + 1)) + tallyAt (recvCell (tgt c ⟨(23 - (24 - (n2 + 1))) / 8 % 3, _⟩) c ⟨(23 - (24 - (n2 + 1))) % 8, _⟩) () N = _
    have e₁ : (⟨(23 - (24 - (n2 + 1))) / 8 % 3, Nat.mod_lt _ (by decide)⟩ : Fin 3) = bOf n2 := Fin.ext (by show (23 - (24 - (n2 + 1))) / 8 % 3 = n2 / 8 % 3; omega)
    have e₂ : (⟨(23 - (24 - (n2 + 1))) % 8, Nat.mod_lt _ (by decide)⟩ : Fin 8) = qOf n2 := Fin.ext (by show (23 - (24 - (n2 + 1))) % 8 = n2 % 8; omega)
    rw [e₁, e₂]
  have eO : owS c (24 - n2) + owB c (3 - 3) = (owS c (24 - (n2 + 1)) + owB c (3 - 3)) + tallyAt (recvCell (tgt c (bOf n2)) c (qOf n2)) () N := by
    rw [e, add_assoc, add_assoc, add_comm (owB c (3 - 3))]
  have hp₁ : ((sq1 (sP (bOf n2) (qOf n2))).view.loc (c : Thread nD τ) ↦[(sq1 (sP (bOf n2) (qOf n2))).view.set]{fullShare} fs : sProp 𝕄)
      ⊢ (xRd m).payload (sendCell c (bOf n2) (qOf n2)) 0 c := by
    rw [payload_send]
    have h := owns_intro (Ix := Unit) (Name := ℕ) (U := UU) (Lvl := ℕ) (c : Thread nD τ) (sq1 (sP (bOf n2) (qOf n2))) fullShare fs
    rw [hfs] at h
    exact h.trans (Entails.of_eq (own_squeeze c (sP (bOf n2) (qOf n2)) squeezes_S1x128x1024_S128x1024 (svi m c n2)))
  have hp₂ : ((sq1 (cP c (qOf n2))).view.loc (tgt c (bOf n2) : Thread nD τ) ↦[(sq1 (cP c (qOf n2))).view.set]{fullShare}
        (sq1 (cP c (qOf n2))).view.write (Elt F) fd ((sq1 (sP (bOf n2) (qOf n2))).view.read (Elt F) fs) Finset.univ : sProp 𝕄)
      ⊢ (xRd m).payload (recvCell (tgt c (bOf n2)) c (qOf n2)) 0 c := by
    rw [payload_recv, hfs]
    exact (own_written (tgt c (bOf n2)) (sq1 (cP c (qOf n2))) fd _).trans
      (Entails.of_eq (own_squeeze (tgt c (bOf n2)) (cP c (qOf n2)) squeezes_S1x128x1024_S128x1024 (svi m c n2)))
  iapply (Rounds.wp_send_pointsTo 𝒱₀ ER (xRd m) (c : Thread nD τ) none (κ₁ := K (c, kSend n2)) (κ₂ := K (tgt c (bOf n2), kRecv c (qOf n2)))
    (src := sq1 (sP (bOf n2) (qOf n2))) (c' := (tgt c (bOf n2) : Thread nD τ)) (dst := sq1 (cP c (qOf n2))) (sS := .dma (sendS (bOf n2) (qOf n2))) (sem := .dma (recvS c (qOf n2)))
    (r₁ := 0) (r₂ := 0) (d₁ := c) (d₂ := c) (fs := fs) (fd := fd) (q := fullShare)
    (by rw [duties_send]; exact Finset.mem_singleton_self _) (by rw [duties_recv m (tgt c (bOf n2)) hne]; exact Finset.mem_singleton_self _)
    () () N rfl rfl rfl (owS c (24 - (n2 + 1)) + owB c (3 - 3)) eO (W := W) hp₁ hp₂) $$ [HO Hs Hd Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  isplitl [Hdb]; · iapply Hdb; iempintro
  iapply Hsb
  isplitl [Hc] <;> iassumption

theorem st_waitsend {sp' : Space} {s' : Shape} {e' : EltTy} {srcw : Memref sig .tc sp' s' e'} {offs : Fin _ → ℕ} {inbs} {hs} {sem hsrc hdst}
    (h : n3 < 24) (hse : sem = sendS (bOf n3) (qOf n3))
    (hn : St m K c ⟨3, bw, xn, xw, xl, wn, ww, 24, 24, n3 + 1, cm, rv, wb, t, s, d⟩ ⊢ WP c (k ⟨⟩) Q) :
    St m K c ⟨3, bw, xn, xw, xl, wn, ww, 24, 24, n3, cm, rv, wb, t, s, d⟩ ⊢
      WP c (.op (.waitDma2 sem srcw ((sM.slice (Rect.unit (s := S3x1024x1024) offs S1x128x1024.size inbs) hs).squeeze S128x1024 squeezes_S1x128x1024_S128x1024)
        hsrc hdst) k) Q := by
  subst hse
  refine via2 .ow .snd (by decide) (by intro i hi hi'; cases i <;> first | rfl | exact absurd rfl hi | exact absurd rfl hi') ?_ hn
  refine fam' (sndΦ m c) ⟨n3, h⟩ _ _ (fun i hi => by
    have : i.val ≠ n3 := fun h => hi (Fin.ext h)
    show sndLev i.val 24 24 (n3 + 1) = sndLev i.val 24 24 n3
    unfold sndLev; repeat' split
    all_goals first | rfl | omega) ?_
  rw [show sndLev (⟨n3, h⟩ : Fin 24).val 24 24 n3 = 2 by unfold sndLev; rw [if_neg (by show ¬ n3 < n3; omega), if_pos (by show n3 < 24; omega)],
    show sndLev (⟨n3, h⟩ : Fin 24).val 24 24 (n3 + 1) = 3 by unfold sndLev; rw [if_pos (by show n3 < n3 + 1; omega)]]
  simp only [sndΦ]
  dsimp only [Comp]
  iintro ⟨⟨#HR, ⟨%W, HO⟩⟩, Hc, Ha⟩ Hk
  ihave #HI := (rec_inv m K (c, kSend n3)) $$ HR
  rw [kcell_send]
  iapply (Rounds.wp_wait_rest_token 𝒱₀ ER (xRd m) (c : Thread nD τ) none (κ := K (c, kSend n3))
      (wpE_waitDma2_eq 𝒱₀ (c : Thread nD τ) none Set.univ) (Set.mem_univ _) () (O := owS c (24 - 24) + owB c (3 - 3)) (W := W) (R := 0) (m := 0) (T := ∅)
      (by rw [Nat.zero_add, expect_send])) $$ [HO Hc Ha]
  · isplitr; · iexact HI
    isplitl [Hc]; · iexact Hc
    isplitl [HO]; · iexact HO
    isplitr
    · rw [show owS c (24 - 24) + owB c (3 - 3) = 0 from add_zero _, MayWait_zero]; iempintro
    iexact Ha
  iintro ⟨HO, Ha, -, Hp⟩
  ihave Hp := (Entails.of_eq (rest_send m c (bOf n3) (qOf n3))) $$ Hp
  iapply Hk
  isplitl [HO]; · iexists _; iexact HO
  unfold sendPay svi
  isplitl [Hp]; · iexact Hp
  iexact Ha

/-! ## Arrivals -/

theorem st_recv {sp' : Space} {s' : Shape} {e' : EltTy} {srcw : Memref sig .tc sp' s' e'} {offs : Fin _ → ℕ} {inbs} {hs} {sem hsrc hdst}
    (h : rv < 24) (hse : sem = recvS (src c (rj rv).succ) (rq rv))
    (hn : St m K c ⟨3, bw, xn, xw, xl, wn, ww, n1, 24, n3, cm, rv + 1, wb, t, s, d⟩ ⊢ WP c (k ⟨⟩) Q) :
    St m K c ⟨3, bw, xn, xw, xl, wn, ww, n1, 24, n3, cm, rv, wb, t, s, d⟩ ⊢
      WP c (.op (.waitDma2 sem srcw ((cM.slice (Rect.unit (s := S4x1024x1024) offs S1x128x1024.size inbs) hs).squeeze S128x1024 squeezes_S1x128x1024_S128x1024)
        hsrc hdst) k) Q := by
  subst hse
  refine via2 .ow .rcv (by decide) (by intro i hi hi'; cases i <;> first | rfl | exact absurd rfl hi | exact absurd rfl hi') ?_ hn
  refine fam' (rcvΦ m c) ⟨rv, h⟩ _ _ (fun i hi => by
    have : i.val ≠ rv := fun h => hi (Fin.ext h)
    exact decide_eq_decide.mpr (by show i.val < rv + 1 ↔ i.val < rv; omega)) ?_
  rw [show decide ((⟨rv, h⟩ : Fin 24).val < rv) = false from decide_eq_false (Nat.lt_irrefl _),
    show decide ((⟨rv, h⟩ : Fin 24).val < rv + 1) = true from decide_eq_true (Nat.lt_succ_self _)]
  dsimp only [Comp, rcvΦ]
  iintro ⟨⟨#HR, ⟨%W, HO⟩⟩, Hc, Ha⟩ Hk
  ihave #HI := (rec_inv m K (c, kRecv (src c (rj rv).succ) (rq rv))) $$ HR
  rw [kcell_recv]
  iapply (Rounds.wp_wait_rest_token 𝒱₀ ER (xRd m) (c : Thread nD τ) none (κ := K (c, kRecv (src c (rj rv).succ) (rq rv)))
      (wpE_waitDma2_eq 𝒱₀ (c : Thread nD τ) none Set.univ) (Set.mem_univ _) () (O := owS c (24 - 24) + owB c (3 - 3)) (W := W) (R := 0) (m := 0) (T := ∅)
      (by rw [Nat.zero_add, expect_recv m c (src_succ_ne c _)])) $$ [HO Hc Ha]
  · isplitr; · iexact HI
    isplitl [Hc]; · iexact Hc
    isplitl [HO]; · iexact HO
    isplitr
    · rw [show owS c (24 - 24) + owB c (3 - 3) = 0 from add_zero _, MayWait_zero]; iempintro
    iexact Ha
  iintro ⟨HO, Ha, -, Hp⟩
  ihave Hp := (Entails.of_eq (rest_recv m c (src_succ_ne c (rj rv)) (rq rv))) $$ Hp
  iapply Hk
  isplitl [HO]; · iexists _; iexact HO
  unfold recvPay
  rw [show sv m (src c (rj rv).succ) c (rq rv) = cv m c (rj rv).succ (rq rv) from (if_neg (Fin.succ_ne_zero _)).symm]
  isplitl [Hp]; · iexact Hp
  iexact Ha

theorem st_loadc0 {off : Fin _ → ℕ} {inb} {hl} {kl : (S1x128x1024.Idx → Elt F .bf16) → Prog (TpuEff nD τ sig (Elt F) Λ₀ .tc) α}
    (hoff : off = ![c.val, 128 * (tq t).val, 0])
    (hn : St m K c ⟨ns, bw, xn, xw, xl, wn, ww, n1, n2, n3, 1, rv, wb, t, s, d⟩ ⊢ WP c (kl (cv m c 0 (tq t))) Q) :
    St m K c ⟨ns, bw, xn, xw, xl, wn, ww, n1, n2, n3, 1, rv, wb, t, s, d⟩ ⊢
      WP c (.op (.load cM (Rect.unit (s := S4x1024x1024) off S1x128x1024.size inb).toLoadRect hl) kl) Q := by
  subst hoff
  refine via0 .ownb ?_ hn
  show iprop(records m K ∗ ownbΦ m c true) ⊢ iprop((ownbΦ m c true -∗ _) -∗ _)
  dsimp only [ownbΦ]
  refine fam (fun (q : Fin 8) (_ : Unit) => own c (cP (src c 0) q) (cv m c 0 q)) (tq t) (fun _ => ()) (fun _ => ()) (fun i hi => rfl) ?_
  simp only [src_zero]
  iintro ⟨-, H⟩ Hk
  iapply (wp_load_own c (m := cM) (r := cR c (tq t)) (fun _ => rfl)) $$ H
  iexact Hk

theorem st_loadcr {off : Fin _ → ℕ} {inb} {hl} {kl : (S1x128x1024.Idx → Elt F .bf16) → Prog (TpuEff nD τ sig (Elt F) Λ₀ .tc) α}
    (h₁ : 16 ≤ t) (h₂ : t < 64) (hr : (t - 16) / 2 < rv) (hoff : off = ![(src c (tj t)).val, 128 * (tq t).val, 0])
    (hn : St m K c ⟨ns, bw, xn, xw, xl, wn, ww, n1, n2, n3, cm, rv, wb, t, s, d⟩ ⊢ WP c (kl (cv m c (tj t) (tq t))) Q) :
    St m K c ⟨ns, bw, xn, xw, xl, wn, ww, n1, n2, n3, cm, rv, wb, t, s, d⟩ ⊢
      WP c (.op (.load cM (Rect.unit (s := S4x1024x1024) off S1x128x1024.size inb).toLoadRect hl) kl) Q := by
  subst hoff
  refine via0 .rcv ?_ hn
  refine fam (rcvΦ m c) ⟨(t - 16) / 2, by omega⟩ _ _ (fun i hi => rfl) ?_
  rw [show decide ((⟨(t - 16) / 2, by omega⟩ : Fin 24).val < rv) = true from decide_eq_true hr]
  have e₁ : (rj ((t - 16) / 2)).succ = tj t := Fin.ext (by
    show (t - 16) / 2 % 3 + 1 = (if t < 16 then 0 else (t - 16) % 6 / 2 + 1) % 4
    rw [if_neg (by omega)]; omega)
  have e₂ : rq ((t - 16) / 2) = tq t := Fin.ext (by
    show (t - 16) / 2 / 3 % 8 = (if t < 16 then t / 2 else (t - 16) / 6) % 8
    rw [if_neg (by omega)]; omega)
  dsimp only [rcvΦ]
  rw [e₁, e₂]
  iintro ⟨-, H, Ha⟩ Hk
  iapply (wp_load_own c (m := cM) (r := cR (src c (tj t)) (tq t)) (fun _ => rfl)) $$ H
  iintro H
  iapply Hk
  isplitl [H]; · iexact H
  iexact Ha

end Cert.KernelIdeal.A2A

end
-- ==== Proof.KernelIdeal.Accum.lean ====
/-
# One step each: the accumulator and the copies of the result
-/
module

public import proofs.«01_k».proof.Proof.KernelIdeal.Steps
public import proofs.«01_k».proof.Proof.KernelIdeal.Split

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m} {K : Dev nD × KI → ℕ} {α : Type} {Q : α → sProp (MT nD τ sig Unit (Elt F) ℕ UU ℕ)} {c : Dev nD}
  {k : PUnit → Prog (TpuEff nD τ sig (Elt F) Λ₀ .tc) α} {ns bw xn xw xl wn ww n1 n2 n3 cm rv wb t s d : ℕ}

/-! ## The accumulator -/

/-- The piece the `t`-th store goes to. -/
def ai (t : ℕ) : Fin 16 := ⟨(if t < 16 then t else (t - 16) / 6 * 2 + t % 2) % 16, Nat.mod_lt _ (by decide)⟩

theorem tq_ai {t : ℕ} (ht : t < 64) : tq (ai t).val = tq t := Fin.ext (by
  show (if (ai t).val < 16 then (ai t).val / 2 else _) % 8 = (if t < 16 then t / 2 else (t - 16) / 6) % 8
  rw [if_pos (ai t).isLt]
  show (if t < 16 then t else (t - 16) / 6 * 2 + t % 2) % 16 / 2 % 8 = _
  split <;> omega)
theorem th_ai {t : ℕ} (ht : t < 64) : th (ai t).val = th t := Fin.ext (by
  show (if t < 16 then t else (t - 16) / 6 * 2 + t % 2) % 16 % 2 = t % 2
  split <;> omega)

/-- The accumulator's piece of store `t` holds what block `tj t` adds to; the store moves it on to that block, -/
theorem alev_ai {t : ℕ} (ht : t < 64) : alev (ai t).val t = (tj t).val := by
  show alev ((if t < 16 then t else (t - 16) / 6 * 2 + t % 2) % 16) t = (if t < 16 then 0 else (t - 16) % 6 / 2 + 1) % 4
  unfold alev
  split
  · split
    · rfl
    · omega
  · repeat' split
    all_goals omega
theorem alev_ai_succ {t : ℕ} (ht : t < 64) : alev (ai t).val (t + 1) = (tj t).val + 1 := by
  show alev ((if t < 16 then t else (t - 16) / 6 * 2 + t % 2) % 16) (t + 1) = (if t < 16 then 0 else (t - 16) % 6 / 2 + 1) % 4 + 1
  unfold alev
  split
  · repeat' split
    all_goals omega
  · repeat' split
    all_goals omega
/-- and no other. -/
theorem alev_other {t : ℕ} (ht : t < 64) (i : Fin 16) (hi : i ≠ ai t) : alev i.val (t + 1) = alev i.val t := by
  have hne : i.val ≠ (if t < 16 then t else (t - 16) / 6 * 2 + t % 2) % 16 := fun h => hi (Fin.ext h)
  have := i.isLt
  unfold alev
  split at hne
  · repeat' split
    all_goals omega
  · repeat' split
    all_goals omega

theorem st_deadacc {off : Fin _ → ℕ} {inb} {hl} {kl : (S128x1024.Idx → Elt F .f32) → Prog (TpuEff nD τ sig (Elt F) Λ₀ .tc) α}
    (h : t < 16) (hoff : off = ![128 * (tq t).val, 1024 * (th t).val])
    (hn : ∀ v, St m K c ⟨ns, bw, xn, xw, xl, wn, ww, n1, n2, n3, cm, rv, wb, t, 0, d⟩ ⊢ WP c (kl v) Q) :
    St m K c ⟨ns, bw, xn, xw, xl, wn, ww, n1, n2, n3, cm, rv, wb, t, 0, d⟩ ⊢
      WP c (.op (.load aM (Rect.unit (s := S1024x2048) off S128x1024.size inb).toLoadRect hl) kl) Q := by
  subst hoff
  refine via0 (B := iprop(∀ v, WP c (kl v) Q)) .acc ?_ (forall_intro hn)
  refine fam (accΦ m c) (ai t) _ _ (fun i hi => rfl) ?_
  rw [show accSt (ai t).val t 0 = some 0 by
    unfold accSt; rw [if_neg (Nat.not_lt_zero _), alev_ai (by omega)]
    show some ((if t < 16 then 0 else (t - 16) % 6 / 2 + 1) % 4) = some 0; rw [if_pos h]]
  simp only [accΦ]
  rw [tq_ai (by omega), th_ai (by omega)]
  exact load_any (M := aM) (r := aR (tq t) (th t)) (fun _ => rfl)

/-- What the accumulator's piece of store `t` holds before it. -/
def accb (m : (ℓ : Loc nD τ sig) → Buf (Elt F) ℓ) (c : Dev nD) (t : ℕ) : S128x1024.Idx → Elt F .f32 :=
  acc m c (tq t) (th t) ⟨((tj t).val - 1) % 4, Nat.mod_lt _ (by decide)⟩

theorem st_loadacc {off : Fin _ → ℕ} {inb} {hl} {kl : (S128x1024.Idx → Elt F .f32) → Prog (TpuEff nD τ sig (Elt F) Λ₀ .tc) α}
    (h₁ : 16 ≤ t) (h₂ : t < 64) (hs : s ≤ (tq t).val) (hoff : off = ![128 * (tq t).val, 1024 * (th t).val])
    (hn : St m K c ⟨ns, bw, xn, xw, xl, wn, ww, n1, n2, n3, cm, rv, wb, t, s, d⟩ ⊢ WP c (kl (accb m c t)) Q) :
    St m K c ⟨ns, bw, xn, xw, xl, wn, ww, n1, n2, n3, cm, rv, wb, t, s, d⟩ ⊢
      WP c (.op (.load aM (Rect.unit (s := S1024x2048) off S128x1024.size inb).toLoadRect hl) kl) Q := by
  subst hoff
  refine via0 .acc ?_ hn
  refine fam (accΦ m c) (ai t) _ _ (fun i hi => rfl) ?_
  have ej : (tj t).val = ((tj t).val - 1) + 1 := by
    have : (tj t).val = (t - 16) % 6 / 2 + 1 := by
      show (if t < 16 then 0 else (t - 16) % 6 / 2 + 1) % 4 = _; rw [if_neg (by omega)]; omega
    omega
  have e₁ : (tq t).val = (ai t).val / 2 := by
    show (if t < 16 then t / 2 else (t - 16) / 6) % 8 = (if t < 16 then t else (t - 16) / 6 * 2 + t % 2) % 16 / 2
    split <;> omega
  rw [show accSt (ai t).val t s = some (((tj t).val - 1) + 1) by
    unfold accSt; rw [if_neg (by omega), alev_ai h₂, ← ej]]
  simp only [accΦ]
  rw [tq_ai h₂, th_ai h₂]
  iintro ⟨-, H⟩ Hk
  iapply (wp_load_own c (m := aM) (r := aR (tq t) (th t)) (fun _ => rfl)) $$ H
  iexact Hk

theorem st_storeacc {off : Fin _ → ℕ} {inb} {w hx hm} (h : t < 64) (hs : s ≤ (tq t).val)
    (hoff : off = ![128 * (tq t).val, 1024 * (th t).val]) (hw : w = acc m c (tq t) (th t) (tj t))
    (hn : St m K c ⟨ns, bw, xn, xw, xl, wn, ww, n1, n2, n3, cm, rv, wb, t + 1, s, d⟩ ⊢ WP c (k ⟨⟩) Q) :
    St m K c ⟨ns, bw, xn, xw, xl, wn, ww, n1, n2, n3, cm, rv, wb, t, s, d⟩ ⊢
      WP c (.op (.store aM (Rect.unit (s := S1024x2048) off S128x1024.size inb) w Finset.univ hx hm) k) Q := by
  subst hoff hw
  refine via1 .acc (by intro i hi; cases i <;> first | rfl | exact absurd rfl hi) ?_ hn
  refine fam (accΦ m c) (ai t) _ _ (fun i hi => by
    show accSt i.val (t + 1) s = accSt i.val t s
    unfold accSt; rw [alev_other h i hi]) ?_
  have e₁ : (tq t).val = (ai t).val / 2 := by
    show (if t < 16 then t / 2 else (t - 16) / 6) % 8 = (if t < 16 then t else (t - 16) / 6 * 2 + t % 2) % 16 / 2
    split <;> omega
  rw [show accSt (ai t).val t s = some (tj t).val by unfold accSt; rw [if_neg (by omega), alev_ai h],
    show accSt (ai t).val (t + 1) s = some ((tj t).val + 1) by unfold accSt; rw [if_neg (by omega), alev_ai_succ h]]
  have hany : (accΦ m c (ai t) (some (tj t).val) : sProp 𝕄) ⊢ ownAny F c (aP (tq t) (th t)) := by
    cases (tj t).val with
    | zero => simp only [accΦ]; rw [tq_ai h, th_ai h]
    | succ n => simp only [accΦ]; rw [tq_ai h, th_ai h]; exact own_any c _ _
  have hto : (own c (aP (tq t) (th t)) (acc m c (tq t) (th t) (tj t)) : sProp 𝕄) ⊢ accΦ m c (ai t) (some ((tj t).val + 1)) := by
    simp only [accΦ]; rw [tq_ai h, th_ai h]
    rw [show (⟨(tj t).val % 4, Nat.mod_lt _ (by decide)⟩ : Fin 4) = tj t from Fin.ext (Nat.mod_eq_of_lt (tj t).isLt)]
  iintro ⟨-, H⟩ Hk
  ihave H := hany $$ H
  icases H with ⟨%Y, H⟩
  iapply (wp_store_own c (m := aM) (r := aR (tq t) (th t)) (fun _ => rfl)) $$ H
  iintro H
  iapply Hk
  iapply hto $$ H

/-! ## The copies of the result -/

/-- The two pieces of eight rows at their last store are the rows of the result. -/
theorem join_out (q : Fin 8) : (iprop(own c (aP q 0) (acc m c q 0 3) ∗ own c (aP q 1) (acc m c q 1 3)) : sProp 𝕄) ⊢ own c (awP q) (ov m c q) := by
  have h := parts_join c aM (aR q) (fun _ _ => rfl) (ah_disj q) (oR q) (fun _ => rfl) (ah_cov q) (fun h => (ahR h).emb) (ah_em q)
    (fun h => acc m c q h 3)
  have e : (bigSep Finset.univ fun h : Fin 2 => own c (aP q h) (acc m c q h 3) : sProp 𝕄) = iprop(own c (aP q 0) (acc m c q 0 3) ∗ own c (aP q 1) (acc m c q 1 3)) := by
    rw [show (Finset.univ : Finset (Fin 2)) = insert 0 {1} by decide, bigSep_insert (by decide), bigSep_singleton]; rfl
  rw [e] at h
  refine h.trans ?_
  iintro ⟨%X, %hX, H⟩
  have eX : X = ov m c q := by
    funext j
    have h₀ : (j 0).val < 128 := (j 0).isLt
    have h₁ : (j 1).val < 2048 := (j 1).isLt
    have hj := hX ⟨(j 1).val / 1024, by omega⟩ (Fin.cons ⟨(j 0).val, h₀⟩ (Fin.cons ⟨(j 1).val % 1024, Nat.mod_lt _ (by decide)⟩ finZeroElim))
    have ej : (ahR ⟨(j 1).val / 1024, by omega⟩).emb (Fin.cons ⟨(j 0).val, h₀⟩ (Fin.cons ⟨(j 1).val % 1024, Nat.mod_lt _ (by decide)⟩ finZeroElim)) = j :=
      funext fun a => Fin.ext (by
        fin_cases a
        · show 0 + 1 * (j 0).val = (j 0).val; omega
        · show 1024 * ((j 1).val / 1024) + 1 * ((j 1).val % 1024) = (j 1).val; omega)
    rw [ej] at hj
    rw [hj]
    show _ = acc m c ⟨(128 * q.val + 1 * (j 0).val) / 128, _⟩ ⟨(0 + 1 * (j 1).val) / 1024, _⟩ 3
      (Fin.cons ⟨(128 * q.val + 1 * (j 0).val) % 128, _⟩ (Fin.cons ⟨(0 + 1 * (j 1).val) % 1024, _⟩ finZeroElim))
    have e₁ : (⟨(128 * q.val + 1 * (j 0).val) / 128, by omega⟩ : Fin 8) = q := Fin.ext (by show (128 * q.val + 1 * (j 0).val) / 128 = q.val; omega)
    have e₂ : (⟨(0 + 1 * (j 1).val) / 1024, by omega⟩ : Fin 2) = ⟨(j 1).val / 1024, by omega⟩ := Fin.ext (by show (0 + 1 * (j 1).val) / 1024 = (j 1).val / 1024; omega)
    have e₃ : (⟨(128 * q.val + 1 * (j 0).val) % 128, by omega⟩ : Fin 128) = ⟨(j 0).val, h₀⟩ := Fin.ext (by show (128 * q.val + 1 * (j 0).val) % 128 = (j 0).val; omega)
    have e₄ : (⟨(0 + 1 * (j 1).val) % 1024, by omega⟩ : Fin 1024) = ⟨(j 1).val % 1024, by omega⟩ := Fin.ext (by show (0 + 1 * (j 1).val) % 1024 = (j 1).val % 1024; omega)
    rw [e₁, e₂]
    exact congrArg _ (funext fun a => Fin.ext (by fin_cases a <;> first | exact (congrArg Fin.val e₃).symm | exact (congrArg Fin.val e₄).symm))
  rw [← eX]
  iexact H

theorem st_startout {offs off : Fin _ → ℕ} {inbs inb} {hs hd sem hsrc hdst hsem}
    (h : s < 8) (ht : 22 + 6 * s ≤ t) (hd' : d ≤ s)
    (hoffs : offs = ![128 * s, 0]) (hoff : off = ![128 * s, 0]) (hse : sem = oS ⟨s, h⟩)
    (hn : St m K c ⟨ns, bw, xn, xw, xl, wn, ww, n1, n2, n3, cm, rv, wb, t, s + 1, d⟩ ⊢ WP c (k ⟨⟩) Q) :
    St m K c ⟨ns, bw, xn, xw, xl, wn, ww, n1, n2, n3, cm, rv, wb, t, s, d⟩ ⊢
      WP c (.op (.enqueueDma (aM.slice (Rect.unit (s := S1024x2048) offs S128x2048.size inbs) hs)
        (.here (oM.slice (Rect.unit (s := S1024x2048) off S128x2048.size inb) hd)) (.dma sem) hsrc hdst hsem) k) Q := by
  subst hoffs hoff hse
  refine via2 .acc .out (by decide) (by intro i hi hi'; cases i <;> first | rfl | exact absurd rfl hi | exact absurd rfl hi') ?_ hn
  have hs8 : s % 8 = s := Nat.mod_eq_of_lt h
  refine fam' (outΦ m c) ⟨s, h⟩ _ _ (fun i hi => stg_start_other p8 i.isLt fun h' => hi (Fin.ext (h'.trans hs8))) ?_
  rw [show stg 8 (⟨s, h⟩ : Fin 8).val s d = .fresh from if_pos (le_refl s),
    show stg 8 (⟨s, h⟩ : Fin 8).val (s + 1) d = .fly s by have := stg_started p8 hd'; rw [hs8] at this; exact this]
  dsimp only [outΦ, Comp]
  have hq (b : Fin 2) : tq (2 * s + b.val) = ⟨s, h⟩ := Fin.ext (by
    have := b.isLt
    show (if 2 * s + b.val < 16 then (2 * s + b.val) / 2 else _) % 8 = s; rw [if_pos (by omega)]; omega)
  have hh (b : Fin 2) : th (2 * s + b.val) = b := Fin.ext (by have := b.isLt; show (2 * s + b.val) % 2 = b.val; omega)
  have hlt (b : Fin 2) : 2 * s + b.val < 16 := by have := b.isLt; omega
  have hl (b : Fin 2) : accSt (2 * s + b.val) t s = some 4 := by
    have := b.isLt
    unfold accSt alev
    rw [if_neg (by omega), if_neg (by omega), if_neg (by omega), if_neg (by omega), if_neg (by omega)]
  have hl' (b : Fin 2) : accSt (2 * s + b.val) t (s + 1) = none := by
    have := b.isLt
    unfold accSt; rw [if_pos (by omega)]
  have hown (b : Fin 2) : (accΦ m c ⟨2 * s + b.val, hlt b⟩ (some 4) : sProp 𝕄) ⊢ own c (aP ⟨s, h⟩ b) (acc m c ⟨s, h⟩ b 3) := by
    simp only [accΦ]; rw [hq, hh]; exact BI.Entails.refl _
  iintro ⟨⟨-, Hacc⟩, ⟨%Y, Ho⟩, Hv⟩ Hk
  -- the two pieces leave the accumulator
  ihave Hacc := (focus (accΦ m c) ⟨2 * s + (0 : Fin 2).val, hlt 0⟩ (fun i : Fin 16 => accSt i.val t s)
    (fun i : Fin 16 => if i.val = 2 * s then none else accSt i.val t s) (fun i hi => if_neg fun h => hi (Fin.ext h))) $$ Hacc
  icases Hacc with ⟨H0, Hacc⟩
  rw [hl 0, show (if (⟨2 * s + (0 : Fin 2).val, hlt 0⟩ : Fin 16).val = 2 * s then (none : Option ℕ) else some 4) = none from if_pos rfl]
  ihave Hacc := Hacc $$ []
  · simp only [accΦ]; iempintro
  ihave Hacc := (focus (accΦ m c) ⟨2 * s + (1 : Fin 2).val, hlt 1⟩ (fun i : Fin 16 => if i.val = 2 * s then none else accSt i.val t s)
    (fun i : Fin 16 => accSt i.val t (s + 1)) (fun i hi => by
      have h₁ : i.val ≠ 2 * s + 1 := fun h => hi (Fin.ext h)
      show accSt i.val t (s + 1) = if i.val = 2 * s then none else accSt i.val t s
      unfold accSt; repeat' split
      all_goals first | rfl | omega)) $$ Hacc
  icases Hacc with ⟨H1, Hacc⟩
  rw [hl' 1, show (if (⟨2 * s + (1 : Fin 2).val, hlt 1⟩ : Fin 16).val = 2 * s then (none : Option ℕ) else accSt (⟨2 * s + (1 : Fin 2).val, hlt 1⟩ : Fin 16).val t s) = some 4 from
    (if_neg (by show ¬ 2 * s + 1 = 2 * s; omega)).trans (hl 1)]
  ihave Hacc := Hacc $$ []
  · simp only [accΦ]; iempintro
  ihave H0 := (hown 0) $$ H0
  ihave H1 := (hown 1) $$ H1
  ihave Hs := (join_out (m := m) (c := c) ⟨s, h⟩) $$ [H0 H1]
  · isplitl [H0] <;> iassumption
  unfold own owns
  icases Hs with ⟨%fs, %hfs, Hs⟩
  iapply (wp_start_own c (src := awP ⟨s, h⟩) (dst := oP ⟨s, h⟩) (q := fullShare) (S₀ := (awP ⟨s, h⟩).view.set) (fs := fs) (Y := Y) (X := ov m c ⟨s, h⟩) No rfl
    (View.dmaCredit_pos _ (by decide)) (Finset.Subset.refl _) hfs) $$ [Hs Ho Hv]
  · isplitl [Hs]; · iexact Hs
    isplitl [Ho]
    · unfold own owns; iexact Ho
    iexact Hv
  iintro HF
  iapply Hk
  isplitl [Hacc]; · iexact Hacc
  iexists fs; iexact HF

theorem st_waitout {sp' : Space} {s' : Shape} {e' : EltTy} {srcw : Memref sig .tc sp' s' e'} {dstw : Memref sig .tc .hbm S128x2048 .f32} {sem hsrc hdst}
    (hN : dstw.view.dmaCredit = No) (h : d < 8) (h₁ : d < s) (h₂ : s ≤ 8) (hse : sem = oS ⟨d, h⟩)
    (hn : St m K c ⟨3, bw, xn, xw, xl, wn, ww, n1, n2, n3, cm, rv, wb, t, s, d + 1⟩ ⊢ WP c (k ⟨⟩) Q) :
    St m K c ⟨3, bw, xn, xw, xl, wn, ww, n1, n2, n3, cm, rv, wb, t, s, d⟩ ⊢
      WP c (.op (.waitDma2 sem srcw dstw hsrc hdst) k) Q := by
  subst hse
  refine via2 .ow .out (by decide) (by intro i hi hi'; cases i <;> first | rfl | exact absurd rfl hi | exact absurd rfl hi') ?_ hn
  have hd8 : d % 8 = d := Nat.mod_eq_of_lt h
  refine fam' (outΦ m c) ⟨d, h⟩ _ _ (fun i hi => stg_wait_other p8 h₁ (by omega) i.isLt fun h' => hi (Fin.ext (h'.trans hd8))) ?_
  rw [show stg 8 (⟨d, h⟩ : Fin 8).val s d = .fly d by have := stg_flying p8 h₁ (n := s) (by omega); rw [hd8] at this; exact this,
    show stg 8 (⟨d, h⟩ : Fin 8).val s (d + 1) = .done d by have := stg_done p8 (Nat.lt_succ_self d) h₁ (by omega); rw [hd8] at this; exact this]
  dsimp only [outΦ, Comp]
  iintro ⟨⟨#HR, HO⟩, ⟨%fs, H⟩⟩ Hk
  iapply (wp_wait_own c (N := No) (dstw := dstw) hN) $$ [HO H]
  · isplitl [H]; · iexact H
    isplitl [HO]; · iexact HO
    iapply (mayW (c := c) _ ?_) $$ HR
    dsimp only [lv]; rw [if_neg (by omega)]; decide
  iintro ⟨H1, H2, H3, HO⟩
  iapply Hk
  isplitl [HO]; · iexact HO
  isplitl [H2]
  · iapply (own_any c (awP ⟨d, h⟩) ((awP ⟨d, h⟩).view.read (Elt F) fs))
    unfold own
    iapply (owns_intro (Ix := Unit) (Name := ℕ) (U := UU) (Lvl := ℕ) (c : Thread nD τ) (awP ⟨d, h⟩) fullShare fs) $$ H2
  isplitl [H1] <;> iassumption

end Cert.KernelIdeal.A2A

end
-- ==== Proof.KernelIdeal.Chain.lean ====
/-
# The kernel's body

The kernel's run on one device, from no progress to all of it, part after part: at each operation the step lemma of its
kind moves the state's counters (`body`).
-/
module

public import proofs.«01_k».proof.Proof.KernelIdeal.Moves
public import proofs.«01_k».proof.Proof.KernelIdeal.Accum

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m} {K : Dev nD × KI → ℕ} {c : Dev nD}

/-- A part of the program that leads from one state to another and returns a value, before the rest of it. -/
theorem bindR {α β : Type} {p : Prog (TpuEff nD τ sig (Elt F) Λ₀ .tc) β} {k : β → Prog (TpuEff nD τ sig (Elt F) Λ₀ .tc) α}
    {Q : α → sProp (MT nD τ sig Unit (Elt F) ℕ UU ℕ)} {s s' : Cnt} {v : β}
    (h₁ : ∀ Q' : β → sProp (MT nD τ sig Unit (Elt F) ℕ UU ℕ), (St m K c s' ⊢ Q' v) → St m K c s ⊢ WP c p Q')
    (h₂ : St m K c s' ⊢ WP c (k v) Q) : St m K c s ⊢ WP c (p >>= k) Q := by
  unfold WP
  rw [wp_bind]
  exact h₁ _ h₂

/-- The end of a part. -/
theorem retR {β : Type} {Q : β → sProp (MT nD τ sig Unit (Elt F) ℕ UU ℕ)} {s : Cnt} {v : β} (h : St m K c s ⊢ Q v) :
    St m K c s ⊢ WP c (.ret v) Q := h.trans fupd_intro

set_option maxHeartbeats 4000000 in
/-- The body takes a device's state from no progress to everything done. -/
theorem body :
    St m K c ⟨0, 0, 0, 0, 0, 0, 0, 0, 0, 0, 0, 0, 0, 0, 0, 0⟩ ⊢ WP c (bodyAt0 t0_0) fun _ => St m K c ⟨3, 1, 24, 24, 2, 8, 8, 24, 24, 24, 1, 24, 8, 64, 8, 8⟩ := by
  unfold bodyAt0
  rw [cc0_body_eq_skeleton]; unfold cc0_body_skel
  rw [k0_part69_eq_skeleton]; unfold k0_part69_skel
  simp only [Prog.bind_assoc]
  iterate 33
    apply bindR
    · intro Q' h
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
      first | unfold k0_part1_skel | unfold k0_part2_skel | unfold k0_part3_skel | unfold k0_part4_skel | unfold k0_part5_skel | unfold k0_part6_skel | unfold k0_part7_skel | unfold k0_part8_skel | unfold k0_part9_skel | unfold k0_part10_skel | unfold k0_part11_skel | unfold k0_part12_skel | unfold k0_part13_skel | unfold k0_part14_skel | unfold k0_part15_skel | unfold k0_part16_skel | unfold k0_part17_skel | unfold k0_part18_skel | unfold k0_part19_skel | unfold k0_part20_skel | unfold k0_part21_skel | unfold k0_part22_skel | unfold k0_part23_skel | unfold k0_part24_skel | unfold k0_part25_skel | unfold k0_part26_skel | unfold k0_part27_skel | unfold k0_part28_skel | unfold k0_part29_skel | unfold k0_part30_skel | unfold k0_part31_skel | unfold k0_part32_skel | unfold k0_part33_skel
      simp only [semSignalWord, semWaitWord, Prog.lift, Prog.bind_op, Prog.bind_ret, Prog.pure_eq_ret, Prog.bind_assoc, wp_deviceId]
      repeat (
        first
          | with_reducible apply st_startx | with_reducible apply st_waitx | with_reducible apply st_loadx | with_reducible refine st_deads ?_ ?_ ?_ ?_ (fun _ => ?_) | with_reducible apply st_stores | with_reducible apply st_send
          | with_reducible refine st_signal ?_ ?_ ?_ ?_ ?_ | with_reducible apply st_barwait | with_reducible apply st_startxl | with_reducible apply st_waitxl | with_reducible apply st_loadxl | with_reducible apply st_startw | with_reducible apply st_waitw | with_reducible apply st_loadw
          | with_reducible refine st_deadwf (by omega) (by decide) (fun _ => ?_) | with_reducible apply st_storewf | with_reducible refine st_deadown ?_ (fun _ => ?_) | with_reducible apply st_storeown | with_reducible apply st_loadc0 | with_reducible apply st_loadwf | with_reducible refine st_deadacc ?_ ?_ (fun _ => ?_) | with_reducible apply st_storeacc
        all_goals try (first | with_reducible rfl | omega | (clear h; revert c; decide +kernel) | exact rfl))
      try simp only [Nat.reduceAdd]
      exact retR h
    try dsimp only
  iterate 27
    apply bindR
    · intro Q' h
      simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
      first | unfold k0_part34_skel | unfold k0_part35_skel | unfold k0_part36_skel | unfold k0_part37_skel | unfold k0_part38_skel | unfold k0_part39_skel | unfold k0_part40_skel | unfold k0_part41_skel | unfold k0_part42_skel | unfold k0_part43_skel | unfold k0_part44_skel | unfold k0_part45_skel | unfold k0_part46_skel | unfold k0_part47_skel | unfold k0_part48_skel | unfold k0_part49_skel | unfold k0_part50_skel | unfold k0_part51_skel | unfold k0_part52_skel | unfold k0_part53_skel | unfold k0_part54_skel | unfold k0_part55_skel | unfold k0_part56_skel | unfold k0_part57_skel | unfold k0_part58_skel | unfold k0_part59_skel | unfold k0_part60_skel | unfold k0_part61_skel | unfold k0_part62_skel | unfold k0_part63_skel | unfold k0_part64_skel | unfold k0_part65_skel | unfold k0_part66_skel | unfold k0_part67_skel | unfold k0_part68_skel
      simp only [semSignalWord, semWaitWord, Prog.lift, Prog.bind_op, Prog.bind_ret, Prog.pure_eq_ret, Prog.bind_assoc]
      repeat (
        first
          | with_reducible apply st_recv | with_reducible apply st_loadcr | with_reducible refine st_deadwf (by omega) (by decide) (fun _ => ?_) | with_reducible apply st_loadwf | with_reducible apply st_loadacc | with_reducible apply st_storeacc
          | with_reducible refine st_startout ?_ ?_ ?_ ?_ ?_ ?_ ?_ | with_reducible refine st_waitout ?_ ?_ ?_ ?_ ?_ ?_ | with_reducible apply st_startw | with_reducible apply st_waitw | with_reducible apply st_loadw | with_reducible apply st_storewf | with_reducible apply st_waitsend
        all_goals try (first | with_reducible rfl | omega | (clear h; revert c; decide +kernel) | exact rfl))
      try simp only [Nat.reduceAdd]
      exact retR h
    try dsimp only
  simp only [Prog.pure_eq_ret, Prog.bind_ret]
  rw [k0_part70_eq_skeleton]; unfold k0_part70_skel
  simp only [Prog.bind_assoc]
  iterate 8
    apply bindR
    · intro Q' h
      simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
      first | unfold k0_part34_skel | unfold k0_part35_skel | unfold k0_part36_skel | unfold k0_part37_skel | unfold k0_part38_skel | unfold k0_part39_skel | unfold k0_part40_skel | unfold k0_part41_skel | unfold k0_part42_skel | unfold k0_part43_skel | unfold k0_part44_skel | unfold k0_part45_skel | unfold k0_part46_skel | unfold k0_part47_skel | unfold k0_part48_skel | unfold k0_part49_skel | unfold k0_part50_skel | unfold k0_part51_skel | unfold k0_part52_skel | unfold k0_part53_skel | unfold k0_part54_skel | unfold k0_part55_skel | unfold k0_part56_skel | unfold k0_part57_skel | unfold k0_part58_skel | unfold k0_part59_skel | unfold k0_part60_skel | unfold k0_part61_skel | unfold k0_part62_skel | unfold k0_part63_skel | unfold k0_part64_skel | unfold k0_part65_skel | unfold k0_part66_skel | unfold k0_part67_skel | unfold k0_part68_skel
      simp only [semSignalWord, semWaitWord, Prog.lift, Prog.bind_op, Prog.bind_ret, Prog.pure_eq_ret, Prog.bind_assoc]
      repeat (
        first
          | with_reducible apply st_recv | with_reducible apply st_loadcr | with_reducible refine st_deadwf (by omega) (by decide) (fun _ => ?_) | with_reducible apply st_loadwf | with_reducible apply st_loadacc | with_reducible apply st_storeacc
          | with_reducible refine st_startout ?_ ?_ ?_ ?_ ?_ ?_ ?_ | with_reducible refine st_waitout ?_ ?_ ?_ ?_ ?_ ?_ | with_reducible apply st_startw | with_reducible apply st_waitw | with_reducible apply st_loadw | with_reducible apply st_storewf | with_reducible apply st_waitsend
        all_goals try (first | with_reducible rfl | omega | (clear h; revert c; decide +kernel) | exact rfl))
      try simp only [Nat.reduceAdd]
      exact retR h
    try dsimp only
  simp only [Prog.lift, Prog.bind_op, Prog.bind_ret, Prog.pure_eq_ret, Prog.bind_assoc]
  iterate 4
    with_reducible apply st_waitsend
    all_goals try (first | omega | (revert c; decide +kernel))
  simp only [Nat.reduceAdd]
  exact retR (BI.Entails.refl _)

end Cert.KernelIdeal.A2A

end
-- ==== Proof.KernelIdeal.Launch.lean ====
/-
# The run

The launch at the four devices: the body's run from entry to exit gives the library's obligation, and the whole program
terminates with each device's result array at `outv`, its arguments unchanged and every semaphore at zero (`run_main`).
-/
module

public import proofs.«01_k».proof.Proof.KernelIdeal.Leave
public import proofs.«01_k».proof.Proof.KernelIdeal.Chain
public import Idealize.ShloMosaic.Lib.Pipeline.CollectiveSegs

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- What holds before the one grid point. -/
def Φ₀ (c : Dev nD) : sProp 𝕄 := iprop(start m c ∗ Pipeline.scopedRest cfg0.spec c)
/-- What holds after it. -/
def Φ₁ (c : Dev nD) : sProp 𝕄 := iprop(fin m c ∗ Pipeline.ownSems0 osem c ∗ Pipeline.scopedRest cfg0.spec c)

/-- The region on device `c`: no window is staged by the library; a device owes at entry all it will signal and send, at
    the end nothing. -/
def dats (_ : Fin 1) (c : Dev nD) : Dat τ (Elt F) Unit ℕ UU ℕ cfg0 c where
  A w := (w : Fin 0).elim0
  after w _ := (w : Fin 0).elim0
  Φ t := match t with
    | ⟨0, _⟩ => Φ₀ m c
    | ⟨_ + 1, _⟩ => Φ₁ m c
  q w := (w : Fin 0).elim0
  owed t := match t with
    | ⟨0, _⟩ => O₀ c
    | ⟨_ + 1, _⟩ => 0

/-- The kernel's run on device `c`, from what the launch gives it to what it ends with. -/
theorem kernel_run (c : Dev nD) : iprop(Φ₀ m c ∗ ∃ W, owes (c : Thread nD τ) (O₀ c) W)
    ⊢ WP (F := F) c (bodyAt0 t0_0) fun _ => iprop(Φ₁ m c ∗ ∃ W, owes (c : Thread nD τ) 0 W) := by
  unfold Φ₀
  iintro ⟨⟨Hs, Hr⟩, Hd⟩
  ihave H := (enter m c) $$ [Hs Hr Hd]
  · isplitl [Hs]; · iexact Hs
    isplitl [Hr]; · iexact Hr
    iexact Hd
  icases H with ⟨%K, H⟩
  iapply (wp_fupd _ (wpE (defs₀ (F := F)) 𝒱₀ (c : Thread nD τ) none) Set.univ (bodyAt0 t0_0) fun _ => iprop(Φ₁ m c ∗ ∃ W, owes (c : Thread nD τ) 0 W))
  iapply (wp_mono _ (wpE (defs₀ (F := F)) 𝒱₀ (c : Thread nD τ) none) Set.univ (p := bodyAt0 t0_0) (fun _ => (leave m c K).trans (BI.fupd_mono (by
    unfold Φ₁; iintro ⟨Hd, Hf, Ho, Hr⟩
    isplitr [Hd]
    · isplitl [Hf]; · iexact Hf
      isplitl [Ho]; · iexact Ho
      iexact Hr
    · iexact Hd))))
  iapply (body (m := m) (K := K) (c := c)) $$ H

set_option maxRecDepth 20000 in
/-- The library's body obligation on device `c`. -/
theorem body_obligation (c : Dev nD) : BodyObligation (dats m 0 c) (defs₀ (F := F)) 𝒱₀ () Set.univ := fun t => by
  rw [fin_N0 t]
  unfold Dat.owesAt Pipeline.owesWithin
  show iprop(Φ₀ m c ∗ (∃ W, ⌜_⌝ ∗ owes (c : Thread nD τ) (O₀ c) W) ∗ _) ⊢ WP c (bodyAt0 t0_0)
    fun _ => iprop(Φ₁ m c ∗ (∃ W, ⌜_⌝ ∗ owes (c : Thread nD τ) 0 W) ∗ bigSep Finset.univ fun w : Fin 0 => _)
  iintro ⟨HΦ, ⟨%W, -, Hd⟩, -⟩
  iapply (wp_mono _ (wpE (defs₀ (F := F)) 𝒱₀ (c : Thread nD τ) none) Set.univ (p := bodyAt0 t0_0) (Q := fun _ => iprop(Φ₁ m c ∗ ∃ W, owes (c : Thread nD τ) 0 W)) (fun _ => by
    iintro ⟨HΦ, ⟨%W, Hd⟩⟩
    isplitl [HΦ]; · iexact HΦ
    isplitl
    · iexists W
      isplitr; · (ipureintro; exact fun _ _ => Or.inl (Set.mem_univ _))
      iexact Hd
    · rw [show (Finset.univ : Finset (Fin 0)) = ∅ from rfl, bigSep_empty]; iempintro))
  iapply (kernel_run m c)
  isplitl [HΦ]; · iexact HΦ
  iexists W; iexact Hd

set_option maxRecDepth 20000 in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  have h : (Pipeline.unscopedRestP Pipeline.Prefetch.none cfg0.spec c (fun b => m ((c : Thread nD τ).loc b)) : sProp 𝕄)
      = iprop(xPts m c fullShare ∗ wPts m c fullShare ∗ (oLoc c ↦{fullShare} m (oLoc c))) :=
    Pipeline.unscopedRestP_eq_of_list cfg0.spec c Pipeline.Prefetch.none _ [main_arg0, main_arg1, main_v1] (by decide) (by decide)
  rw [h]
  iintro ⟨⟨Hx, Hw, Ho⟩, Hlev, Hcr, -, HG⟩
  ihave Hc := (creds (F := F) c) $$ Hcr
  imodintro
  isplitl
  · unfold start
    isplitl [HG]; · iexact HG
    isplitl [Hc]; · iexact Hc
    isplitl [Hlev]; · iexact Hlev
    isplitl [Hx]; · iexact Hx
    isplitl [Hw]; · iexact Hw
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  iexact Hr

theorem waits (c : Dev nD) : (levAts L lv : sProp 𝕄) ⊢ Pipeline.cellsWaits cfgs (dats m) () 0 c :=
  Pipeline.cellsWaits_intro cfgs (dats m) () 0 c fun w _ _ => (w : Fin 0).elim0

/-- A device's arguments and result at the end. -/
def Ends (c : Dev nD) (mem : (ℓ : Loc nD τ sig) → Buf (Elt F) ℓ) : Prop :=
  mem ((c : Thread nD τ).loc main_arg0) = m ((c : Thread nD τ).loc main_arg0)
    ∧ mem ((c : Thread nD τ).loc main_arg1) = m ((c : Thread nD τ).loc main_arg1) ∧ mem (oLoc c) = outv m c

theorem fin_read (c : Dev nD) (s' : Phys nD τ sig (Elt F)) : iprop(fin m c ∗ emp ∗ SI s')
    ⊢ (|={Set.univ}=> iprop(⌜Ends m c s'.mem.mem ∧ ∀ sm : SemLoc sig, sm.isScoped .tc = false → s'.mem.sem ((c.tc : Thread nD τ), sm) = 0⌝ ∗ SI s') : sProp 𝕄) := by
  unfold fin
  iintro ⟨⟨Hu, Hx, Hw, Ho⟩, -, HSI⟩
  ihave H := (persistent_entails_right (SI_pointsTo_agree (st := s') (ℓ := (c : Thread nD τ).loc main_arg0) (I := Finset.univ) (q := fullShare) (f := m ((c : Thread nD τ).loc main_arg0)))) $$ [HSI Hx]
  · isplitl [HSI]; · iexact HSI
    iexact Hx
  icases H with ⟨%hx, HSI, -⟩
  ihave H := (persistent_entails_right (SI_pointsTo_agree (st := s') (ℓ := (c : Thread nD τ).loc main_arg1) (I := Finset.univ) (q := fullShare) (f := m ((c : Thread nD τ).loc main_arg1)))) $$ [HSI Hw]
  · isplitl [HSI]; · iexact HSI
    iexact Hw
  icases H with ⟨%hw, HSI, -⟩
  ihave H := (persistent_entails_right (SI_pointsTo_agree (st := s') (ℓ := oLoc c) (I := Finset.univ) (q := fullShare) (f := outv m c))) $$ [HSI Ho]
  · isplitl [HSI]; · iexact HSI
    iexact Ho
  icases H with ⟨%ho, HSI, -⟩
  imod (Pipeline.unscopedSems0_read (X := unscopedSems0 c) (c := c) fupd_intro s') $$ [Hu HSI] with H
  · isplitl [Hu] <;> iassumption
  icases H with ⟨%hs, HSI⟩
  imodintro
  isplitr
  · ipureintro
    exact ⟨⟨funext fun i => hx i (Finset.mem_univ i), funext fun i => hw i (Finset.mem_univ i), funext fun i => ho i (Finset.mem_univ i)⟩, hs⟩
  · iexact HSI

set_option maxRecDepth 20000 in
/-- At the mesh of four devices, for any float values, from any memory with zero counters: every weakly fair execution of
    the program terminates, and at the end each device's arguments are unchanged, its result array holds `outv`, and every
    semaphore counter is zero. -/
theorem run_main : θ_run defs (onTc (τ := τ) (main (F := F))) (s₀ m ρ) (fun r => (∀ c, Ends m c r.2.mem) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => (w : Fin 0).elim0) (harr := arr_whole0) (hstage := stage_whole0) (hshare := fun _ w => (w : Fin 0).elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund m) (hglob := glob m)
    (hA := fun _ w => (w : Fin 0).elim0) (hpf := fun _ k => k.elim0)
    (X := start m) (Y := fin m) (Z := fun _ => iprop(emp))
    (hX := start_intro m ρ) (hin := phi0_intro m) (hout := fun _ => .rfl)
    (QY := fun c s => Ends m c s.mem ∧ ∀ sm : SemLoc sig, sm.isScoped .tc = false → s.sem ((c.tc : Thread nD τ), sm) = 0)
    (hY := fin_read m)
    (hQ := fun _ h hs => ⟨fun c => (h c).2.2.1, sem_eq_zero hs fun c => (h c).2.2.2⟩)

end Cert.KernelIdeal.A2A

end
-- ==== Proof.KernelIdeal.Value.lean ====
/-
# The value at exact arithmetic

With floats read as extended reals, each device's result is its rows of `x @ w`: a piece of `x` and a block of `w` are
unchanged by their rounding, the accumulator adds the four blocks' products in the order they are worked on, and a sum
over the contraction is the sum of its four blocks' in any order (`outv_apply`).
-/
module

public import proofs.«01_k».proof.Proof.KernelIdeal.Proto
public import Idealize.ShloMosaic.Lib.MatmulPlain
public import Idealize.ShloMosaic.Lib.ValueIdx
public import Idealize.ShloMosaic.Lib.Pipeline.Value

@[expose] public section

noncomputable section

namespace Cert.KernelIdeal.A2A

open Cert.KernelIdeal Cert.KernelIdeal.Gen

open Idealize.ShloMosaic
open Idealize.ShloMosaic.TcCoe Idealize.ShloMosaic.ValueIdx Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable (m : (ℓ : Loc nD τ sig) → Buf (Elt Ideal) ℓ)

/-! ## Pieces read at an index -/

theorem up_apply {e : EltTy} (X : S128x1024.Idx → Elt Ideal e) (r : Fin 128) (k : Fin 1024) : up X (ix3 (0 : Fin 1) r k) = X (ix2 r k) := by
  unfold up
  refine congrArg X ?_
  rw [Equiv.symm_apply_eq]
  exact ((shapeCast_dropUnit_apply ![128, 1024] (fun i => i) (squeezes_S1x128x1024_S128x1024).numel_eq (ix2 r k)).trans
    (funext fun a => by match a with | ⟨0, _⟩ => rfl | ⟨1, _⟩ => rfl | ⟨2, _⟩ => rfl)).symm

theorem upB_apply {e : EltTy} (X : S1024x1024.Idx → Elt Ideal e) (r k : Fin 1024) : upB X (ix3 (0 : Fin 1) r k) = X (ix2 r k) := by
  unfold upB
  refine congrArg X ?_
  rw [Equiv.symm_apply_eq]
  exact ((shapeCast_dropUnit_apply ![1024, 1024] (fun i => i) (squeezes_S1x1024x1024_S1024x1024).numel_eq (ix2 r k)).trans
    (funext fun a => by match a with | ⟨0, _⟩ => rfl | ⟨1, _⟩ => rfl | ⟨2, _⟩ => rfl)).symm

theorem drop_apply {α : Type} (X : S1x128x1024.Idx → α) (r : Fin 128) (k : Fin 1024) :
    shapeCast S128x1024 X shapeCasts_S1x128x1024_S128x1024 (ix2 r k) = X (ix3 (0 : Fin 1) r k) :=
  (shapeCast_dropUnit_apply ![128, 1024] X _ (ix2 r k)).trans
    (congrArg X (funext fun a => by match a with | ⟨0, _⟩ => rfl | ⟨1, _⟩ => rfl | ⟨2, _⟩ => rfl))
theorem dropB_apply {α : Type} (X : S1x1024x1024.Idx → α) (r k : Fin 1024) :
    shapeCast S1024x1024 X shapeCasts_S1x1024x1024_S1024x1024 (ix2 r k) = X (ix3 (0 : Fin 1) r k) :=
  (shapeCast_dropUnit_apply ![1024, 1024] X _ (ix2 r k)).trans
    (congrArg X (funext fun a => by match a with | ⟨0, _⟩ => rfl | ⟨1, _⟩ => rfl | ⟨2, _⟩ => rfl))
theorem add_apply {α : Type} (X : S128x1024.Idx → α) (r : Fin 128) (k : Fin 1024) :
    shapeCast S1x128x1024 X shapeCasts_S128x1024_S1x128x1024 (ix3 (0 : Fin 1) r k) = X (ix2 r k) :=
  (shapeCast_addUnit_apply ![128, 1024] X _ (ix3 (0 : Fin 1) r k)).trans
    (congrArg X (funext fun a => by match a with | ⟨0, _⟩ => rfl | ⟨1, _⟩ => rfl))
theorem addB_apply {α : Type} (X : S1024x1024.Idx → α) (r k : Fin 1024) :
    shapeCast S1x1024x1024 X shapeCasts_S1024x1024_S1x1024x1024 (ix3 (0 : Fin 1) r k) = X (ix2 r k) :=
  (shapeCast_addUnit_apply ![1024, 1024] X _ (ix3 (0 : Fin 1) r k)).trans
    (congrArg X (funext fun a => by match a with | ⟨0, _⟩ => rfl | ⟨1, _⟩ => rfl))
theorem same_apply (X : S128x1024.Idx → Elt Ideal .f32) (i : S128x1024.Idx) : shapeCast S128x1024 X shapeCasts_S128x1024_S128x1024 i = X i :=
  congrArg X (Shape.reshapeEquiv_self _ i)

/-- Rounding a piece to send it changes nothing here; -/
theorem pay1_apply (X : S1x128x1024.Idx → Elt Ideal .f32) (r : Fin 128) (k : Fin 1024) :
    k0_pay1 (F := Ideal) X (ix3 (0 : Fin 1) r k) = X (ix3 (0 : Fin 1) r k) := by
  unfold k0_pay1
  rw [add_apply, truncf_apply, drop_apply]
/-- nor does rounding the own block, -/
theorem pay27_apply (X : S1024x1024.Idx → Elt Ideal .f32) (r k : Fin 1024) : k0_pay27 (F := Ideal) X (ix3 (0 : Fin 1) r k) = X (ix2 r k) := by
  unfold k0_pay27
  rw [addB_apply, truncf_apply]
/-- nor a block of `w`. -/
theorem pay28_apply (X : S1x1024x1024.Idx → Elt Ideal .f32) (r k : Fin 1024) :
    k0_pay28 (F := Ideal) X (ix3 (0 : Fin 1) r k) = X (ix3 (0 : Fin 1) r k) := by
  unfold k0_pay28
  rw [addB_apply, truncf_apply, dropB_apply]

theorem dot_plain : dot_S128x1024_S1024x1024_S128x1024_1_0_0_1_n_n = DotDims.plain 128 1024 1024 := rfl

/-- A piece's product with half a block of `w`. -/
def prod (A : S1x128x1024.Idx → EReal) (B : S1x1024x1024.Idx → EReal) (r : Fin 128) (l : Fin 1024) : EReal :=
  ∑ k : Fin 1024, A (ix3 (0 : Fin 1) r k) * B (ix3 (0 : Fin 1) k l)

theorem pay30_apply (A : S1x128x1024.Idx → Elt Ideal .bf16) (B : S1x1024x1024.Idx → Elt Ideal .bf16) (r : Fin 128) (l : Fin 1024) :
    k0_pay30 (F := Ideal) A B (ix2 r l) = prod A B r l := by
  unfold k0_pay30 prod
  rw [same_apply, dot_plain]
  unfold matmul
  rw [Ideal.matmul_plain_apply]
  show Ideal.ofBits .f32 0x00000000#32 + _ = _
  rw [Ideal.ofBits_zero_f32, zero_add]
  exact Finset.sum_congr rfl fun k _ => congrArg₂ (· * ·) (drop_apply A r k) (dropB_apply B k l)

theorem pay51_apply (A : S1x128x1024.Idx → Elt Ideal .bf16) (B : S1x1024x1024.Idx → Elt Ideal .bf16) (V : S128x1024.Idx → Elt Ideal .f32)
    (r : Fin 128) (l : Fin 1024) : k0_pay51 (F := Ideal) A B V (ix2 r l) = V (ix2 r l) + prod A B r l := by
  unfold k0_pay51 prod
  rw [same_apply, addf_apply]
  refine congrArg (V (ix2 r l) + ·) ?_
  rw [dot_plain]
  unfold matmul
  rw [Ideal.matmul_plain_apply]
  show Ideal.ofBits .f32 0x00000000#32 + _ = _
  rw [Ideal.ofBits_zero_f32, zero_add]
  exact Finset.sum_congr rfl fun k _ => congrArg₂ (· * ·) (drop_apply A r k) (dropB_apply B k l)

/-! ## What is multiplied -/

/-- Row `r` of piece `q` of device `c`'s rows. -/
def row (c : Dev nD) (q : Fin 8) (r : Fin 128) : Fin 4096 := ⟨1024 * c.val + 128 * q.val + r.val, by have : c.val < 4 := c.isLt; omega⟩
/-- Column `l` of half `h`. -/
def col (h : Fin 2) (l : Fin 1024) : Fin 2048 := ⟨1024 * h.val + l.val, by omega⟩
/-- Position `k` of the contraction's block `d`. -/
def pos (d : Dev nD) (k : Fin 1024) : Fin 4096 := ⟨1024 * d.val + k.val, by have : d.val < 4 := d.isLt; omega⟩

theorem xv_apply (c d : Dev nD) (q : Fin 8) (r : Fin 128) (k : Fin 1024) : xv m c d q (ix3 (0 : Fin 1) r k) = xs m c (ix2 (row d q r) k) := by
  unfold xv
  rw [up_apply]
  refine congrArg (xs m c) (funext fun a => Fin.ext ?_)
  match a with
  | ⟨0, _⟩ => show 1024 * d.val + 128 * q.val + 1 * r.val = 1024 * d.val + 128 * q.val + r.val; omega
  | ⟨1, _⟩ => show 0 + 1 * k.val = k.val; omega

theorem lv₀_apply (c : Dev nD) (q : Fin 8) (r : Fin 128) (k : Fin 1024) : lv₀ m c q (ix3 (0 : Fin 1) r k) = xs m c (ix2 (row c q r) k) := by
  unfold lv₀ lb
  refine (congrArg (k0_pay27 (xlv m c)) (show _ = ix3 (0 : Fin 1) (⟨128 * q.val + r.val, by omega⟩ : Fin 1024) k from funext fun a => Fin.ext ?_)).trans ?_
  · match a with
    | ⟨0, _⟩ => rfl
    | ⟨1, _⟩ => show 128 * q.val + 1 * r.val = 128 * q.val + r.val; omega
    | ⟨2, _⟩ => show 0 + 1 * k.val = k.val; omega
  rw [pay27_apply]
  unfold xlv
  refine congrArg (xs m c) (funext fun a => Fin.ext ?_)
  match a with
  | ⟨0, _⟩ => show 1024 * c.val + 1 * (128 * q.val + r.val) = 1024 * c.val + 128 * q.val + r.val; omega
  | ⟨1, _⟩ => show 0 + 1 * k.val = k.val; omega

/-- The piece worked on `j`-th is read off the `x` of the device it came from. -/
theorem cv_apply (c : Dev nD) (j : Fin 4) (q : Fin 8) (r : Fin 128) (k : Fin 1024) :
    cv m c j q (ix3 (0 : Fin 1) r k) = xs m (src c j) (ix2 (row c q r) k) := by
  unfold cv
  split
  · next h => subst h; rw [src_zero]; exact lv₀_apply m c q r k
  · unfold sv
    rw [pay1_apply, xv_apply]

/-- The half of the block of `w` it is multiplied with. -/
theorem wf_apply (c : Dev nD) (j : Fin 4) (h : Fin 2) (k l : Fin 1024) :
    wf m c j h (ix3 (0 : Fin 1) k l) = ws m c (ix2 (pos (src c j) k) (col h l)) := by
  unfold wf wv
  rw [pay28_apply, upB_apply]
  refine congrArg (ws m c) (funext fun a => Fin.ext ?_)
  match a with
  | ⟨0, _⟩ => show 1024 * (src c j).val + 1 * k.val = 1024 * (src c j).val + k.val; omega
  | ⟨1, _⟩ => show 1024 * h.val + 1 * l.val = 1024 * h.val + l.val; omega

/-- The accumulator at the end: the four blocks' products in working order. -/
theorem acc_apply (c : Dev nD) (q : Fin 8) (h : Fin 2) (r : Fin 128) (l : Fin 1024) :
    acc m c q h 3 (ix2 r l) = ∑ j : Fin 4, prod (cv m c j q) (wf m c j h) r l := by
  show k0_pay51 _ _ (k0_pay51 _ _ (k0_pay51 _ _ (k0_pay30 _ _))) (ix2 r l) = _
  rw [pay51_apply, pay51_apply, pay51_apply, pay30_apply, Fin.sum_univ_four]

/-! ## The whole product -/

theorem src_bij : ∀ c : Dev nD, Function.Bijective (src c) := by decide

/-- A sum over the contraction, block by block. -/
theorem sum_blocks (f : Fin 4096 → EReal) : (∑ d : Dev nD, ∑ k : Fin 1024, f (pos d k)) = ∑ K : Fin 4096, f K := by
  rw [← Fintype.sum_prod_type' (fun (d : Fin 4) (k : Fin 1024) => f (pos d k))]
  refine Fintype.sum_equiv (finProdFinEquiv (m := 4) (n := 1024)) _ _ fun x => congrArg f (Fin.ext ?_)
  show 1024 * x.1.val + x.2.val = x.2.val + 1024 * x.1.val
  omega

/-- When the devices hold the columns of `X` in blocks and `W` each, device `c`'s result is its rows of the product. -/
theorem outv_apply (X : (⟨2, ![4096, 4096]⟩ : Shape).Idx → EReal) (W : (⟨2, ![4096, 2048]⟩ : Shape).Idx → EReal)
    (hX : ∀ d R k, xs m d (ix2 R k) = X (ix2 R (pos d k))) (hW : ∀ d i, ws m d i = W i) (c : Dev nD) (i : S1024x2048.Idx) (R : Fin 4096)
    (hR : R.val = 1024 * c.val + (i 0).val) : outv m c i = ∑ K : Fin 4096, X (ix2 R K) * W (ix2 K (i 1)) := by
  have h0 : (i 0).val < 1024 := (i 0).isLt
  have h1 : (i 1).val < 2048 := (i 1).isLt
  unfold outv
  refine (congrArg (acc m c _ _ 3) (show _ = ix2 (⟨(i 0).val % 128, Nat.mod_lt _ (by decide)⟩ : Fin 128) (⟨(i 1).val % 1024, Nat.mod_lt _ (by decide)⟩ : Fin 1024) from
    funext fun a => by match a with | ⟨0, _⟩ => rfl | ⟨1, _⟩ => rfl)).trans ?_
  rw [acc_apply, ← sum_blocks]
  refine Fintype.sum_equiv (Equiv.ofBijective (src c) (src_bij c)) _ _ fun j => ?_
  unfold prod
  refine Finset.sum_congr rfl fun k _ => ?_
  rw [cv_apply, wf_apply, hX, hW]
  refine congrArg₂ (fun a b => X a * W b) (congrArg (fun R' => ix2 R' _) (Fin.ext ?_)) (congrArg (fun C => ix2 _ C) (Fin.ext ?_))
  · show 1024 * c.val + 128 * ((i 0).val / 128) + (i 0).val % 128 = R.val
    omega
  · show 1024 * ((i 1).val / 1024) + (i 1).val % 1024 = (i 1).val
    omega

end Cert.KernelIdeal.A2A

end
-- ==== Proof.lean ====
/-
# The certificate's claim

Three frames (each program terminates with its arguments unchanged and every semaphore at zero), the idealization, and
the value: with floats read as extended reals, each of the four devices ends with its block of rows of the product
`x @ w` that the reference computes on one device. The kernel's runs are `A2A.run_main`
(Proof/Kernel/Launch.lean, Proof/KernelIdeal/Launch.lean), the arithmetic is Proof/KernelIdeal/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Lib.StackMember
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- A run's arguments are unchanged and its semaphores at zero, on the hardware's floats. -/
theorem frame_kernel : Cert.quiescent_Kernel := fun m ρ _ =>
  (θ_run Cert.Kernel.defs _ _).mono (fun _ h => ⟨fun c => ⟨(h.1 c).1, (h.1 c).2.1⟩, h.2⟩) (Cert.Kernel.A2A.run_main (F := Bits) m ρ)

/-- The same at exact arithmetic. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.A2A.run_main (F := Ideal) m ρ)

/-- The reference's run, likewise: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem dot_ref : Cert.ReferenceIdeal.dot_S4096x4096_S4096x2048_S4096x2048_1_0_0_1_n_n = DotDims.plain 4096 4096 2048 := rfl

/-- A block of rows of the reference's product. -/
theorem block_product (X : FVec Ideal ⟨2, ![4096, 4096]⟩ .f32) (W : FVec Ideal ⟨2, ![4096, 2048]⟩ .f32) (c : Fin 4)
    (h : Layout.Tiles ⟨2, ![1024, 2048]⟩ ⟨2, ![4096, 2048]⟩ 0 4) (i : (⟨2, ![1024, 2048]⟩ : Shape).Idx) (R : Fin 4096)
    (hR : R.val = 1024 * c.val + (i 0).val) :
    Layout.block ⟨2, ![1024, 2048]⟩ ⟨2, ![4096, 2048]⟩ 0 4 c
        (Host.dotGeneral Cert.ReferenceIdeal.dot_S4096x4096_S4096x2048_S4096x2048_1_0_0_1_n_n none X W) h i
      = ∑ K : Fin 4096, X (ix2 R K) * W (ix2 K (i 1)) := by
  rw [Layout.block_apply, dot_ref]
  refine (congrArg (Host.dotGeneral (DotDims.plain 4096 4096 2048) none X W) (show h.idx c i = ix2 R (i 1) from funext fun a => Fin.ext ?_)).trans
    (Idealize.ShloMosaic.StackMember.dotGeneral_plain_apply none X W R (i 1))
  match a with
  | ⟨0, _⟩ => show c.val * 1024 + (i 0).val = R.val; omega
  | ⟨1, _⟩ => rfl

/-- Each device ends with its block of rows of the reference's product. -/
theorem value : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).2.2.trans (funext fun i => ?_), (h.1 c).1, (h.1 c).2.1⟩)
    (Cert.KernelIdeal.A2A.run_main (F := Ideal) m ρ)
  have hc : c.val < 4 := c.isLt
  have hi : (i 0).val < 1024 := (i 0).isLt
  refine (Cert.KernelIdeal.A2A.outv_apply m _ _ (fun d R k => ?_) (fun d i => congrFun (hagree d).2 i) c i ⟨1024 * c.val + (i 0).val, by omega⟩ rfl).trans
    (block_product _ _ c _ i _ rfl).symm
  refine (congrFun (hagree d).1 _).trans ?_
  rw [Layout.block_apply]
  refine congrArg _ (funext fun a => Fin.ext ?_)
  match a with
  | ⟨0, _⟩ => rfl
  | ⟨1, _⟩ => show d.val * 1024 + k.val = 1024 * d.val + k.val; omega

/-- Everything claimed. -/
theorem claim : Cert.Claim :=
  ⟨Cert.Kernel.Gen.facts, Cert.KernelIdeal.Gen.facts, Cert.ReferenceIdeal.Gen.facts, frame_kernel, frame_ideal, frame_reference, trivial, value⟩

end Cert.Proof

end
